-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S8192x1024 : Shape := ⟨2, ![8192, 1024]⟩
abbrev S8192x9216 : Shape := ⟨2, ![8192, 9216]⟩
abbrev S1x4x256x256 : Shape := ⟨4, ![1, 4, 256, 256]⟩
abbrev S1x1024 : Shape := ⟨2, ![1, 1024]⟩
abbrev S1x128 : Shape := ⟨2, ![1, 128]⟩
abbrev S1x256 : Shape := ⟨2, ![1, 256]⟩
abbrev S4x4096 : Shape := ⟨2, ![4, 4096]⟩
abbrev S1x4096x36864 : Shape := ⟨3, ![1, 4096, 36864]⟩
abbrev S1x36864 : Shape := ⟨2, ![1, 36864]⟩
abbrev S8192x6144 : Shape := ⟨2, ![8192, 6144]⟩
abbrev S_ : Shape := ⟨0, ![]⟩

class Facts : Prop where
  slices_S8192x9216_S8192x6144_0_0 : S8192x9216.Slices ![0, 0] S8192x6144
  bitsLt_bf16_f32 : FTy.bits .bf16 < FTy.bits .f32
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S8192x9216 .bf16) (main_arg2 : FVec F S1x4x256x256 .f32) (main_arg3 : FVec F S1x1024 .f32) (main_arg4 : FVec F S1x128 .f32) (main_arg5 : FVec F S1x128 .f32) (main_arg6 : FVec F S1x128 .f32) (main_arg7 : FVec F S1x128 .f32) (main_arg8 : FVec F S1x256 .f32) (main_arg9 : FVec F S4x4096 .f32) (main_arg10 : FVec F S1x4096x36864 .f32) (main_arg11 : FVec F S1x36864 .f32) : IVec S8192x6144 1 :=
  let main_v0 : FVec F S8192x6144 .bf16 := (extractStridedSlice S8192x6144 ![0, 0] · slices_S8192x9216_S8192x6144_0_0) main_arg1
  let main_v1 : FVec F S8192x6144 .f32 := (extf .f32 · bitsLt_bf16_f32) main_v0
  let main_v2 : FVec F S8192x6144 .f32 := Host.absf main_v1
  let main_cst : FVec F S_ .f32 := constant S_ .f32 0x7F800000#32
  let main_v3 : FVec F S8192x6144 .f32 := broadcastInDim S8192x6144 ![] bcast_S_S8192x6144 main_cst
  let main_v4 : IVec S8192x6144 1 := cmpf .olt main_v2 main_v3
  main_v4
-- ==== Kernel.lean ====
abbrev S8192x1024 : Shape := ⟨2, ![8192, 1024]⟩
abbrev S8192x9216 : Shape := ⟨2, ![8192, 9216]⟩
abbrev S1x4x256x256 : Shape := ⟨4, ![1, 4, 256, 256]⟩
abbrev S1x1024 : Shape := ⟨2, ![1, 1024]⟩
abbrev S1x128 : Shape := ⟨2, ![1, 128]⟩
abbrev S1x256 : Shape := ⟨2, ![1, 256]⟩
abbrev S4x4096 : Shape := ⟨2, ![4, 4096]⟩
abbrev S1x4096x36864 : Shape := ⟨3, ![1, 4096, 36864]⟩
abbrev S1x36864 : Shape := ⟨2, ![1, 36864]⟩
abbrev S_ : Shape := ⟨0, ![]⟩
abbrev S8x4096 : Shape := ⟨2, ![8, 4096]⟩
abbrev S36864 : Shape := ⟨1, ![36864]⟩
abbrev S4x256x256 : Shape := ⟨3, ![4, 256, 256]⟩
abbrev S1024 : Shape := ⟨1, ![1024]⟩
abbrev S128 : Shape := ⟨1, ![128]⟩
abbrev S256 : Shape := ⟨1, ![256]⟩
abbrev S4096x36864 : Shape := ⟨2, ![4096, 36864]⟩
abbrev S8192x4096 : Shape := ⟨2, ![8192, 4096]⟩
abbrev S8x16384 : Shape := ⟨2, ![8, 16384]⟩
abbrev S2048x256 : Shape := ⟨2, ![2048, 256]⟩
abbrev S4096x256 : Shape := ⟨2, ![4096, 256]⟩
abbrev S8x256 : Shape := ⟨2, ![8, 256]⟩
abbrev S1x256x256 : Shape := ⟨3, ![1, 256, 256]⟩
abbrev S256x256 : Shape := ⟨2, ![256, 256]⟩
abbrev S1 : Shape := ⟨1, ![1]⟩
abbrev S1x1 : Shape := ⟨2, ![1, 1]⟩
abbrev S128x128 : Shape := ⟨2, ![128, 128]⟩
abbrev S256x128 : Shape := ⟨2, ![256, 128]⟩
abbrev S128x256 : Shape := ⟨2, ![128, 256]⟩
abbrev S128x1 : Shape := ⟨2, ![128, 1]⟩
abbrev S384x128 : Shape := ⟨2, ![384, 128]⟩
abbrev S128x384 : Shape := ⟨2, ![128, 384]⟩
abbrev S512x128 : Shape := ⟨2, ![512, 128]⟩
abbrev S128x512 : Shape := ⟨2, ![128, 512]⟩
abbrev S640x128 : Shape := ⟨2, ![640, 128]⟩
abbrev S128x640 : Shape := ⟨2, ![128, 640]⟩
abbrev S384x256 : Shape := ⟨2, ![384, 256]⟩
abbrev S768x128 : Shape := ⟨2, ![768, 128]⟩
abbrev S128x768 : Shape := ⟨2, ![128, 768]⟩
abbrev S512x256 : Shape := ⟨2, ![512, 256]⟩
abbrev S896x128 : Shape := ⟨2, ![896, 128]⟩
abbrev S128x896 : Shape := ⟨2, ![128, 896]⟩
abbrev S640x256 : Shape := ⟨2, ![640, 256]⟩
abbrev S1024x128 : Shape := ⟨2, ![1024, 128]⟩
abbrev S128x1024 : Shape := ⟨2, ![128, 1024]⟩
abbrev S768x256 : Shape := ⟨2, ![768, 256]⟩
abbrev S1152x128 : Shape := ⟨2, ![1152, 128]⟩
abbrev S128x1152 : Shape := ⟨2, ![128, 1152]⟩
abbrev S896x256 : Shape := ⟨2, ![896, 256]⟩
abbrev S1280x128 : Shape := ⟨2, ![1280, 128]⟩
abbrev S128x1280 : Shape := ⟨2, ![128, 1280]⟩
abbrev S1024x256 : Shape := ⟨2, ![1024, 256]⟩
abbrev S1408x128 : Shape := ⟨2, ![1408, 128]⟩
abbrev S128x1408 : Shape := ⟨2, ![128, 1408]⟩
abbrev S1152x256 : Shape := ⟨2, ![1152, 256]⟩
abbrev S1536x128 : Shape := ⟨2, ![1536, 128]⟩
abbrev S128x1536 : Shape := ⟨2, ![128, 1536]⟩
abbrev S1280x256 : Shape := ⟨2, ![1280, 256]⟩
abbrev S1664x128 : Shape := ⟨2, ![1664, 128]⟩
abbrev S128x1664 : Shape := ⟨2, ![128, 1664]⟩
abbrev S1408x256 : Shape := ⟨2, ![1408, 256]⟩
abbrev S1792x128 : Shape := ⟨2, ![1792, 128]⟩
abbrev S128x1792 : Shape := ⟨2, ![128, 1792]⟩
abbrev S1536x256 : Shape := ⟨2, ![1536, 256]⟩
abbrev S1920x128 : Shape := ⟨2, ![1920, 128]⟩
abbrev S128x1920 : Shape := ⟨2, ![128, 1920]⟩
abbrev S1664x256 : Shape := ⟨2, ![1664, 256]⟩
abbrev S2048x128 : Shape := ⟨2, ![2048, 128]⟩
abbrev S128x2048 : Shape := ⟨2, ![128, 2048]⟩
abbrev S1792x256 : Shape := ⟨2, ![1792, 256]⟩
abbrev S1920x256 : Shape := ⟨2, ![1920, 256]⟩

abbrev nBuf : Space → Nat
  | .hbm => 33
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x9216, .bf16⟩
  | .hbm, ⟨2, _⟩ => ⟨S1x4x256x256, .f32⟩
  | .hbm, ⟨3, _⟩ => ⟨S1x1024, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x256, .f32⟩
  | .hbm, ⟨9, _⟩ => ⟨S4x4096, .f32⟩
  | .hbm, ⟨10, _⟩ => ⟨S1x4096x36864, .f32⟩
  | .hbm, ⟨11, _⟩ => ⟨S1x36864, .f32⟩
  | .hbm, ⟨12, _⟩ => ⟨S_, .i32⟩
  | .hbm, ⟨13, _⟩ => ⟨S_, .f32⟩
  | .hbm, ⟨14, _⟩ => ⟨S8x4096, .f32⟩
  | .hbm, ⟨15, _⟩ => ⟨S36864, .f32⟩
  | .hbm, ⟨16, _⟩ => ⟨S1x36864, .f32⟩
  | .hbm, ⟨17, _⟩ => ⟨S4x256x256, .f32⟩
  | .hbm, ⟨18, _⟩ => ⟨S1024, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S256, .f32⟩
  | .hbm, ⟨24, _⟩ => ⟨S4096x36864, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x256, .f32⟩
  | .hbm, ⟨30, _⟩ => ⟨S1x1024, .f32⟩
  | .hbm, ⟨31, _⟩ => ⟨S8192x4096, .bf16⟩
  | .hbm, ⟨32, _⟩ => ⟨S8x16384, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S4x256x256, .f32⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S8x4096, .f32⟩
  | .local _ .vmem, ⟨17, _⟩ => ⟨S4096x256, .f32⟩
  | .local _ .vmem, ⟨18, _⟩ => ⟨S4096x256, .f32⟩
  | .local _ .vmem, ⟨19, _⟩ => ⟨S1x256, .f32⟩
  | .local _ .vmem, ⟨20, _⟩ => ⟨S1x256, .f32⟩
  | .local _ .vmem, ⟨21, _⟩ => ⟨S2048x256, .bf16⟩
  | .local _ .vmem, ⟨22, _⟩ => ⟨S2048x256, .bf16⟩
  | .local _ .vmem, ⟨23, _⟩ => ⟨S8x256, .f32⟩
  | .local _ .vmem, ⟨24, _⟩ => ⟨S8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .sge arg1 c4_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c12_i32 : BitVec 32 := 12#32
  let v2 : BitVec 32 := Scalar.addi c12_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c24_i32 : BitVec 32 := 24#32
  let v2 : BitVec 32 := Scalar.addi c24_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c80_i32 : BitVec 32 := 80#32
  let v1 : BitVec 32 := Scalar.addi c80_i32 v0
  let v2 : BitVec 32 := Scalar.addi v1 arg1
  let c0_i32 : BitVec 32 := 0#32
  let c0_i32_0 : BitVec 32 := 0#32
  ![c0_i32.toNat, v2.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c80_i32 : BitVec 32 := 80#32
  let v1 : BitVec 32 := Scalar.addi c80_i32 v0
  let v2 : BitVec 32 := Scalar.addi v1 arg1
  let c0_i32 : BitVec 32 := 0#32
  let c0_i32_0 : BitVec 32 := 0#32
  ![c0_i32.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4096x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8192x1024 : Shape := ⟨2, ![8192, 1024]⟩
abbrev S8192x9216 : Shape := ⟨2, ![8192, 9216]⟩
abbrev S1x4x256x256 : Shape := ⟨4, ![1, 4, 256, 256]⟩
abbrev S1x1024 : Shape := ⟨2, ![1, 1024]⟩
abbrev S1x128 : Shape := ⟨2, ![1, 128]⟩
abbrev S1x256 : Shape := ⟨2, ![1, 256]⟩
abbrev S4x4096 : Shape := ⟨2, ![4, 4096]⟩
abbrev S1x4096x36864 : Shape := ⟨3, ![1, 4096, 36864]⟩
abbrev S1x36864 : Shape := ⟨2, ![1, 36864]⟩
abbrev S8192x3072 : Shape := ⟨2, ![8192, 3072]⟩
abbrev S4x2048x12x2x128 : Shape := ⟨5, ![4, 2048, 12, 2, 128]⟩
abbrev S4x2048x12x256 : Shape := ⟨4, ![4, 2048, 12, 256]⟩
abbrev S128 : Shape := ⟨1, ![128]⟩
abbrev S_ : Shape := ⟨0, ![]⟩
abbrev S4x256x256 : Shape := ⟨3, ![4, 256, 256]⟩
abbrev S1024 : Shape := ⟨1, ![1024]⟩
abbrev S2048x2048 : Shape := ⟨2, ![2048, 2048]⟩
abbrev S2048x1 : Shape := ⟨2, ![2048, 1]⟩
abbrev S4x2048x4x256 : Shape := ⟨4, ![4, 2048, 4, 256]⟩
abbrev S4x2048x1x256 : Shape := ⟨4, ![4, 2048, 1, 256]⟩
abbrev S4x2048x256 : Shape := ⟨3, ![4, 2048, 256]⟩
abbrev S4x256x2048 : Shape := ⟨3, ![4, 256, 2048]⟩
abbrev S1x2048x1 : Shape := ⟨3, ![1, 2048, 1]⟩
abbrev S1x256x256 : Shape := ⟨3, ![1, 256, 256]⟩
abbrev S256x256 : Shape := ⟨2, ![256, 256]⟩
abbrev S4x2048x1024 : Shape := ⟨3, ![4, 2048, 1024]⟩
abbrev S1x1x1024 : Shape := ⟨3, ![1, 1, 1024]⟩
abbrev S256 : Shape := ⟨1, ![256]⟩
abbrev S4x12x2x2048x2048 : Shape := ⟨5, ![4, 12, 2, 2048, 2048]⟩
abbrev S4x12x2x2048 : Shape := ⟨4, ![4, 12, 2, 2048]⟩
abbrev S4x12x2x2048x1 : Shape := ⟨5, ![4, 12, 2, 2048, 1]⟩
abbrev S4x12x1x2048x2048 : Shape := ⟨5, ![4, 12, 1, 2048, 2048]⟩
abbrev S4x12x2048x2048 : Shape := ⟨4, ![4, 12, 2048, 2048]⟩
abbrev S4x12x256x2048 : Shape := ⟨4, ![4, 12, 256, 2048]⟩
abbrev S4x2048x12 : Shape := ⟨3, ![4, 2048, 12]⟩
abbrev S4x2048x12x1 : Shape := ⟨4, ![4, 2048, 12, 1]⟩
abbrev S1x1x1x256 : Shape := ⟨4, ![1, 1, 1, 256]⟩
abbrev S4x2048x3072 : Shape := ⟨3, ![4, 2048, 3072]⟩
abbrev S4x2048x4096 : Shape := ⟨3, ![4, 2048, 4096]⟩
abbrev S4096x36864 : Shape := ⟨2, ![4096, 36864]⟩
abbrev S4096x16384 : Shape := ⟨2, ![4096, 16384]⟩
abbrev S4x16384 : Shape := ⟨2, ![4, 16384]⟩
abbrev S8x16384 : Shape := ⟨2, ![8, 16384]⟩
abbrev S36864 : Shape := ⟨1, ![36864]⟩
abbrev S16384 : Shape := ⟨1, ![16384]⟩
abbrev S1x16384 : Shape := ⟨2, ![1, 16384]⟩
abbrev S8192x4096 : Shape := ⟨2, ![8192, 4096]⟩

abbrev nBuf : Space → Nat
  | .hbm => 252
  | .vmem => 0
  | .smem => 0
  | _ => 0

abbrev hbmTy0_0 (i : Nat) : BufTy := match i % 128 with
  | 0 => ⟨S8192x1024, .f32⟩
  | 1 => ⟨S8192x9216, .bf16⟩
  | 2 => ⟨S1x4x256x256, .f32⟩
  | 3 => ⟨S1x1024, .f32⟩
  | 4 => ⟨S1x128, .f32⟩
  | 5 => ⟨S1x128, .f32⟩
  | 6 => ⟨S1x128, .f32⟩
  | 7 => ⟨S1x128, .f32⟩
  | 8 => ⟨S1x256, .f32⟩
  | 9 => ⟨S4x4096, .f32⟩
  | 10 => ⟨S1x4096x36864, .f32⟩
  | 11 => ⟨S1x36864, .f32⟩
  | 12 => ⟨S8192x9216, .f32⟩
  | 13 => ⟨S8192x3072, .f32⟩
  | 14 => ⟨S4x2048x12x2x128, .f32⟩
  | 15 => ⟨S8192x3072, .f32⟩
  | 16 => ⟨S4x2048x12x2x128, .f32⟩
  | 17 => ⟨S8192x3072, .f32⟩
  | 18 => ⟨S4x2048x12x256, .f32⟩
  | 19 => ⟨S128, .f32⟩
  | 20 => ⟨S128, .f32⟩
  | 21 => ⟨S128, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4x256x256, .f32⟩
  | 35 => ⟨S1024, .f32⟩
  | 36 => ⟨S2048x2048, .i32⟩
  | 37 => ⟨S2048x2048, .i32⟩
  | 38 => ⟨S2048x1, .i32⟩
  | 39 => ⟨S4x2048x4x256, .f32⟩
  | 40 => ⟨S2048x2048, .i1⟩
  | 41 => ⟨S_, .i32⟩
  | 42 => ⟨S2048x2048, .i32⟩
  | 43 => ⟨S2048x2048, .i32⟩
  | 44 => ⟨S2048x2048, .i1⟩
  | 45 => ⟨S2048x2048, .i1⟩
  | 46 => ⟨S_, .f32⟩
  | 47 => ⟨S_, .f32⟩
  | 48 => ⟨S2048x2048, .f32⟩
  | 49 => ⟨S2048x2048, .f32⟩
  | 50 => ⟨S2048x2048, .f32⟩
  | 51 => ⟨S2048x2048, .f32⟩
  | 52 => ⟨S4x2048x1x256, .f32⟩
  | 53 => ⟨S4x2048x256, .f32⟩
  | 54 => ⟨S4x256x2048, .f32⟩
  | 55 => ⟨S4x2048x256, .f32⟩
  | 56 => ⟨S_, .i32⟩
  | 57 => ⟨S2048x1, .i32⟩
  | 58 => ⟨S2048x1, .i32⟩
  | 59 => ⟨S_, .i32⟩
  | 60 => ⟨S2048x1, .i32⟩
  | 61 => ⟨S2048x1, .i32⟩
  | 62 => ⟨S2048x1, .f32⟩
  | 63 => ⟨S1x2048x1, .f32⟩
  | 64 => ⟨S4x2048x256, .f32⟩
  | 65 => ⟨S4x2048x256, .f32⟩
  | 66 => ⟨S4x2048x1x256, .f32⟩
  | 67 => ⟨S4x2048x256, .f32⟩
  | 68 => ⟨S4x2048x256, .f32⟩
  | 69 => ⟨S1x256x256, .f32⟩
  | 70 => ⟨S256x256, .f32⟩
  | 71 => ⟨S4x2048x256, .f32⟩
  | 72 => ⟨S2048x2048, .i1⟩
  | 73 => ⟨S_, .i32⟩
  | 74 => ⟨S2048x2048, .i32⟩
  | 75 => ⟨S2048x2048, .i32⟩
  | 76 => ⟨S2048x2048, .i1⟩
  | 77 => ⟨S2048x2048, .i1⟩
  | 78 => ⟨S_, .f32⟩
  | 79 => ⟨S_, .f32⟩
  | 80 => ⟨S2048x2048, .f32⟩
  | 81 => ⟨S2048x2048, .f32⟩
  | 82 => ⟨S2048x2048, .f32⟩
  | 83 => ⟨S2048x2048, .f32⟩
  | 84 => ⟨S4x2048x1x256, .f32⟩
  | 85 => ⟨S4x2048x256, .f32⟩
  | 86 => ⟨S4x256x2048, .f32⟩
  | 87 => ⟨S4x2048x256, .f32⟩
  | 88 => ⟨S_, .i32⟩
  | 89 => ⟨S2048x1, .i32⟩
  | 90 => ⟨S2048x1, .i32⟩
  | 91 => ⟨S_, .i32⟩
  | 92 => ⟨S2048x1, .i32⟩
  | 93 => ⟨S2048x1, .i32⟩
  | 94 => ⟨S2048x1, .f32⟩
  | 95 => ⟨S1x2048x1, .f32⟩
  | 96 => ⟨S4x2048x256, .f32⟩
  | 97 => ⟨S4x2048x256, .f32⟩
  | 98 => ⟨S4x2048x1x256, .f32⟩
  | 99 => ⟨S4x2048x256, .f32⟩
  | 100 => ⟨S4x2048x256, .f32⟩
  | 101 => ⟨S1x256x256, .f32⟩
  | 102 => ⟨S256x256, .f32⟩
  | 103 => ⟨S4x2048x256, .f32⟩
  | 104 => ⟨S2048x2048, .i1⟩
  | 105 => ⟨S_, .i32⟩
  | 106 => ⟨S2048x2048, .i32⟩
  | 107 => ⟨S2048x2048, .i32⟩
  | 108 => ⟨S2048x2048, .i1⟩
  | 109 => ⟨S2048x2048, .i1⟩
  | 110 => ⟨S_, .f32⟩
  | 111 => ⟨S_, .f32⟩
  | 112 => ⟨S2048x2048, .f32⟩
  | 113 => ⟨S2048x2048, .f32⟩
  | 114 => ⟨S2048x2048, .f32⟩
  | 115 => ⟨S2048x2048, .f32⟩
  | 116 => ⟨S4x2048x1x256, .f32⟩
  | 117 => ⟨S4x2048x256, .f32⟩
  | 118 => ⟨S4x256x2048, .f32⟩
  | 119 => ⟨S4x2048x256, .f32⟩
  | 120 => ⟨S_, .i32⟩
  | 121 => ⟨S2048x1, .i32⟩
  | 122 => ⟨S2048x1, .i32⟩
  | 123 => ⟨S_, .i32⟩
  | 124 => ⟨S2048x1, .i32⟩
  | 125 => ⟨S2048x1, .i32⟩
  | 126 => ⟨S2048x1, .f32⟩
  | 127 => ⟨S1x2048x1, .f32⟩
  | _ => ⟨S8192x1024, .f32⟩

abbrev hbmTy0_1 (i : Nat) : BufTy := match i % 128 with
  | 0 => ⟨S4x2048x256, .f32⟩
  | 1 => ⟨S4x2048x256, .f32⟩
  | 2 => ⟨S4x2048x1x256, .f32⟩
  | 3 => ⟨S4x2048x256, .f32⟩
  | 4 => ⟨S4x2048x256, .f32⟩
  | 5 => ⟨S1x256x256, .f32⟩
  | 6 => ⟨S256x256, .f32⟩
  | 7 => ⟨S4x2048x256, .f32⟩
  | 8 => ⟨S2048x2048, .i1⟩
  | 9 => ⟨S_, .i32⟩
  | 10 => ⟨S2048x2048, .i32⟩
  | 11 => ⟨S2048x2048, .i32⟩
  | 12 => ⟨S2048x2048, .i1⟩
  | 13 => ⟨S2048x2048, .i1⟩
  | 14 => ⟨S_, .f32⟩
  | 15 => ⟨S_, .f32⟩
  | 16 => ⟨S2048x2048, .f32⟩
  | 17 => ⟨S2048x2048, .f32⟩
  | 18 => ⟨S2048x2048, .f32⟩
  | 19 => ⟨S2048x2048, .f32⟩
  | 20 => ⟨S4x2048x1x256, .f32⟩
  | 21 => ⟨S4x2048x256, .f32⟩
  | 22 => ⟨S4x256x2048, .f32⟩
  | 23 => ⟨S4x2048x256, .f32⟩
  | 24 => ⟨S_, .i32⟩
  | 25 => ⟨S2048x1, .i32⟩
  | 26 => ⟨S2048x1, .i32⟩
  | 27 => ⟨S_, .i32⟩
  | 28 => ⟨S2048x1, .i32⟩
  | 29 => ⟨S2048x1, .i32⟩
  | 30 => ⟨S2048x1, .f32⟩
  | 31 => ⟨S1x2048x1, .f32⟩
  | 32 => ⟨S4x2048x256, .f32⟩
  | 33 => ⟨S4x2048x256, .f32⟩
  | 34 => ⟨S4x2048x1x256, .f32⟩
  | 35 => ⟨S4x2048x256, .f32⟩
  | 36 => ⟨S4x2048x256, .f32⟩
  | 37 => ⟨S1x256x256, .f32⟩
  | 38 => ⟨S256x256, .f32⟩
  | 39 => ⟨S4x2048x256, .f32⟩
  | 40 => ⟨S4x2048x1024, .f32⟩
  | 41 => ⟨S1x1x1024, .f32⟩
  | 42 => ⟨S4x2048x1024, .f32⟩
  | 43 => ⟨S4x2048x1024, .f32⟩
  | 44 => ⟨S256, .f32⟩
  | 45 => ⟨S4x12x2x2048x2048, .f32⟩
  | 46 => ⟨S_, .f32⟩
  | 47 => ⟨S_, .f32⟩
  | 48 => ⟨S4x12x2x2048x2048, .f32⟩
  | 49 => ⟨S4x12x2x2048x2048, .f32⟩
  | 50 => ⟨S2048x2048, .i32⟩
  | 51 => ⟨S2048x2048, .i32⟩
  | 52 => ⟨S2048x2048, .i1⟩
  | 53 => ⟨S_, .f32⟩
  | 54 => ⟨S_, .f32⟩
  | 55 => ⟨S4x12x2x2048x2048, .i1⟩
  | 56 => ⟨S4x12x2x2048x2048, .f32⟩
  | 57 => ⟨S4x12x2x2048x2048, .f32⟩
  | 58 => ⟨S_, .f32⟩
  | 59 => ⟨S4x12x2x2048, .f32⟩
  | 60 => ⟨S_, .f32⟩
  | 61 => ⟨S4x12x2x2048, .f32⟩
  | 62 => ⟨S4x12x2x2048, .f32⟩
  | 63 => ⟨S4x12x2x2048x1, .f32⟩
  | 64 => ⟨S4x12x2x2048x2048, .f32⟩
  | 65 => ⟨S4x12x2x2048x2048, .f32⟩
  | 66 => ⟨S4x12x2x2048x2048, .f32⟩
  | 67 => ⟨S_, .f32⟩
  | 68 => ⟨S4x12x2x2048, .f32⟩
  | 69 => ⟨S4x12x2x2048x1, .f32⟩
  | 70 => ⟨S4x12x2x2048x2048, .f32⟩
  | 71 => ⟨S4x12x2x2048x2048, .f32⟩
  | 72 => ⟨S4x12x1x2048x2048, .f32⟩
  | 73 => ⟨S4x12x2048x2048, .f32⟩
  | 74 => ⟨S4x12x1x2048x2048, .f32⟩
  | 75 => ⟨S4x12x2048x2048, .f32⟩
  | 76 => ⟨S4x12x2048x2048, .f32⟩
  | 77 => ⟨S4x12x2048x2048, .f32⟩
  | 78 => ⟨S4x12x2048x2048, .f32⟩
  | 79 => ⟨S4x12x256x2048, .f32⟩
  | 80 => ⟨S4x2048x12x256, .f32⟩
  | 81 => ⟨S4x2048x12x256, .f32⟩
  | 82 => ⟨S_, .f32⟩
  | 83 => ⟨S4x2048x12, .f32⟩
  | 84 => ⟨S4x2048x12x1, .f32⟩
  | 85 => ⟨S_, .f32⟩
  | 86 => ⟨S4x2048x12x1, .f32⟩
  | 87 => ⟨S4x2048x12x1, .f32⟩
  | 88 => ⟨S_, .f32⟩
  | 89 => ⟨S4x2048x12x1, .f32⟩
  | 90 => ⟨S4x2048x12x1, .f32⟩
  | 91 => ⟨S4x2048x12x1, .f32⟩
  | 92 => ⟨S4x2048x12x256, .f32⟩
  | 93 => ⟨S4x2048x12x256, .f32⟩
  | 94 => ⟨S1x1x1x256, .f32⟩
  | 95 => ⟨S4x2048x12x256, .f32⟩
  | 96 => ⟨S4x2048x12x256, .f32⟩
  | 97 => ⟨S_, .f32⟩
  | 98 => ⟨S4x2048x12x256, .f32⟩
  | 99 => ⟨S4x2048x12x256, .f32⟩
  | 100 => ⟨S4x2048x3072, .f32⟩
  | 101 => ⟨S4x2048x4096, .f32⟩
  | 102 => ⟨S4x2048x4096, .bf16⟩
  | 103 => ⟨S4x4096, .f32⟩
  | 104 => ⟨S4x4096, .f32⟩
  | 105 => ⟨S_, .f32⟩
  | 106 => ⟨S4x4096, .f32⟩
  | 107 => ⟨S4x4096, .f32⟩
  | 108 => ⟨S_, .f32⟩
  | 109 => ⟨S4x4096, .f32⟩
  | 110 => ⟨S4x4096, .f32⟩
  | 111 => ⟨S4x4096, .f32⟩
  | 112 => ⟨S4096x36864, .f32⟩
  | 113 => ⟨S4096x16384, .f32⟩
  | 114 => ⟨S4x16384, .f32⟩
  | 115 => ⟨S_, .i32⟩
  | 116 => ⟨S_, .f32⟩
  | 117 => ⟨S8x16384, .f32⟩
  | 118 => ⟨S36864, .f32⟩
  | 119 => ⟨S16384, .f32⟩
  | 120 => ⟨S1x16384, .f32⟩
  | 121 => ⟨S8x16384, .f32⟩
  | 122 => ⟨S8x16384, .f32⟩
  | 123 => ⟨S8192x4096, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_12 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_14 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_16 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_17 : Ref sig .tc := ⟨.hbm, 142, rfl⟩
abbrev main_cst_18 : Ref sig .tc := ⟨.hbm, 143, rfl⟩
abbrev main_call3_v0 : Ref sig .tc := ⟨.hbm, 144, rfl⟩
abbrev main_call3_v1 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_c_19 : Ref sig .tc := ⟨.hbm, 152, rfl⟩
abbrev main_v111 : Ref sig .tc := ⟨.hbm, 153, rfl⟩
abbrev main_v112 : Ref sig .tc := ⟨.hbm, 154, rfl⟩
abbrev main_c_20 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_21 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_22 : Ref sig .tc := ⟨.hbm, 181, rfl⟩
abbrev main_call4_v0 : Ref sig .tc := ⟨.hbm, 182, rfl⟩
abbrev main_call4_v1 : Ref sig .tc := ⟨.hbm, 183, rfl⟩
abbrev main_call4_v2 : Ref sig .tc := ⟨.hbm, 184, rfl⟩
abbrev main_v137 : Ref sig .tc := ⟨.hbm, 185, rfl⟩
abbrev main_cst_23 : Ref sig .tc := ⟨.hbm, 186, rfl⟩
abbrev main_v138 : Ref sig .tc := ⟨.hbm, 187, rfl⟩
abbrev main_cst_24 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_25 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_26 : Ref sig .tc := ⟨.hbm, 210, rfl⟩
abbrev main_v159 : Ref sig .tc := ⟨.hbm, 211, rfl⟩
abbrev main_v160 : Ref sig .tc := ⟨.hbm, 212, rfl⟩
abbrev main_cst_27 : Ref sig .tc := ⟨.hbm, 213, rfl⟩
abbrev main_v161 : Ref sig .tc := ⟨.hbm, 214, rfl⟩
abbrev main_v162 : Ref sig .tc := ⟨.hbm, 215, rfl⟩
abbrev main_cst_28 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_29 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_call5_v0 : Ref sig .tc := ⟨.hbm, 231, rfl⟩
abbrev main_call5_v1 : Ref sig .tc := ⟨.hbm, 232, rfl⟩
abbrev main_call5_cst : Ref sig .tc := ⟨.hbm, 233, rfl⟩
abbrev main_call5_v2 : Ref sig .tc := ⟨.hbm, 234, rfl⟩
abbrev main_call5_v3 : Ref sig .tc := ⟨.hbm, 235, rfl⟩
abbrev main_call5_cst_0 : Ref sig .tc := ⟨.hbm, 236, rfl⟩
abbrev main_call5_v4 : Ref sig .tc := ⟨.hbm, 237, rfl⟩
abbrev main_call5_v5 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_c_30 : Ref sig .tc := ⟨.hbm, 243, rfl⟩
abbrev main_call6_v0 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩

abbrev nD : Nat := 1
abbrev τ : Topo := Topo.v7x

variable {F : FTy → Type} [FloatOps F]
-- ==== Kernel2.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S2048x4096 : Shape := ⟨2, ![2048, 4096]⟩
abbrev S4096x256 : Shape := ⟨2, ![4096, 256]⟩
abbrev S2048x256 : Shape := ⟨2, ![2048, 256]⟩
abbrev S512x4096 : Shape := ⟨2, ![512, 4096]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S8192x4096, .f32⟩
  | .hbm, ⟨4, _⟩ => ⟨S4096x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S4096x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel3.lean ====
abbrev S8192x4096 : Shape := ⟨2, ![8192, 4096]⟩
abbrev S1x4096x10240 : Shape := ⟨3, ![1, 4096, 10240]⟩
abbrev S4096x10240 : Shape := ⟨2, ![4096, 10240]⟩
abbrev S8192x1024 : Shape := ⟨2, ![8192, 1024]⟩
abbrev S8192x9216 : Shape := ⟨2, ![8192, 9216]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S4096x10240, .f32⟩
  | .hbm, ⟨3, _⟩ => ⟨S8192x1024, .f32⟩
  | .hbm, ⟨4, _⟩ => ⟨S8192x9216, .bf16⟩
  | .local _ .vmem, ⟨0, _⟩ => ⟨S2048x4096, .bf16⟩
  | .local _ .vmem, ⟨1, _⟩ => ⟨S4096x512, .f32⟩
  | .local _ .vmem, ⟨2, _⟩ => ⟨S4096x512, .f32⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 20], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S1x4096x10240 : Shape := ⟨3, ![1, 4096, 10240]⟩
abbrev S4096x10240 : Shape := ⟨2, ![4096, 10240]⟩
abbrev S8192x10240 : Shape := ⟨2, ![8192, 10240]⟩
abbrev S8192x1024 : Shape := ⟨2, ![8192, 1024]⟩
abbrev S8192x3072 : Shape := ⟨2, ![8192, 3072]⟩
abbrev S_ : Shape := ⟨0, ![]⟩
abbrev S8192x9216 : Shape := ⟨2, ![8192, 9216]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x10240, .f32⟩
  | .hbm, ⟨2, _⟩ => ⟨S8192x4096, .f32⟩
  | .hbm, ⟨3, _⟩ => ⟨S4096x10240, .f32⟩
  | .hbm, ⟨4, _⟩ => ⟨S8192x10240, .f32⟩
  | .hbm, ⟨5, _⟩ => ⟨S8192x1024, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x9216, .f32⟩
  | .hbm, ⟨13, _⟩ => ⟨S8192x9216, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4x4096 : Shape := ⟨2, ![4, 4096]⟩
abbrev S1x4096x36864 : Shape := ⟨3, ![1, 4096, 36864]⟩
abbrev S1x36864 : Shape := ⟨2, ![1, 36864]⟩
abbrev S_ : Shape := ⟨0, ![]⟩
abbrev S8x4096 : Shape := ⟨2, ![8, 4096]⟩
abbrev S4096x36864 : Shape := ⟨2, ![4096, 36864]⟩
abbrev S36864 : Shape := ⟨1, ![36864]⟩
abbrev S8x20480 : Shape := ⟨2, ![8, 20480]⟩
abbrev S4096x512 : Shape := ⟨2, ![4096, 512]⟩
abbrev S1x512 : Shape := ⟨2, ![1, 512]⟩
abbrev S8x512 : Shape := ⟨2, ![8, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S1x4096x36864, .f32⟩
  | .hbm, ⟨2, _⟩ => ⟨S1x36864, .f32⟩
  | .hbm, ⟨3, _⟩ => ⟨S_, .i32⟩
  | .hbm, ⟨4, _⟩ => ⟨S_, .f32⟩
  | .hbm, ⟨5, _⟩ => ⟨S8x4096, .f32⟩
  | .hbm, ⟨6, _⟩ => ⟨S4096x36864, .f32⟩
  | .hbm, ⟨7, _⟩ => ⟨S36864, .f32⟩
  | .hbm, ⟨8, _⟩ => ⟨S1x36864, .f32⟩
  | .hbm, ⟨9, _⟩ => ⟨S8x20480, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x4096 : Shape := ⟨2, ![4, 4096]⟩
abbrev S1x4096x36864 : Shape := ⟨3, ![1, 4096, 36864]⟩
abbrev S1x36864 : Shape := ⟨2, ![1, 36864]⟩
abbrev S_ : Shape := ⟨0, ![]⟩
abbrev S4096x36864 : Shape := ⟨2, ![4096, 36864]⟩
abbrev S4096x20480 : Shape := ⟨2, ![4096, 20480]⟩
abbrev S4x20480 : Shape := ⟨2, ![4, 20480]⟩
abbrev S8x20480 : Shape := ⟨2, ![8, 20480]⟩
abbrev S36864 : Shape := ⟨1, ![36864]⟩
abbrev S20480 : Shape := ⟨1, ![20480]⟩
abbrev S1x20480 : Shape := ⟨2, ![1, 20480]⟩

abbrev nBuf : Space → Nat
  | .hbm => 23
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S1x4096x36864, .f32⟩
  | .hbm, ⟨2, _⟩ => ⟨S1x36864, .f32⟩
  | .hbm, ⟨3, _⟩ => ⟨S4x4096, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4096x36864, .f32⟩
  | .hbm, ⟨13, _⟩ => ⟨S4096x20480, .f32⟩
  | .hbm, ⟨14, _⟩ => ⟨S4x20480, .f32⟩
  | .hbm, ⟨15, _⟩ => ⟨S_, .i32⟩
  | .hbm, ⟨16, _⟩ => ⟨S_, .f32⟩
  | .hbm, ⟨17, _⟩ => ⟨S8x20480, .f32⟩
  | .hbm, ⟨18, _⟩ => ⟨S36864, .f32⟩
  | .hbm, ⟨19, _⟩ => ⟨S20480, .f32⟩
  | .hbm, ⟨20, _⟩ => ⟨S1x20480, .f32⟩
  | .hbm, ⟨21, _⟩ => ⟨S8x20480, .f32⟩
  | .hbm, ⟨22, _⟩ => ⟨S8x20480, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel5.lean ====
abbrev S8192x4096 : Shape := ⟨2, ![8192, 4096]⟩
abbrev S4x1x4096 : Shape := ⟨3, ![4, 1, 4096]⟩
abbrev S1x4096 : Shape := ⟨2, ![1, 4096]⟩
abbrev S512x4096 : Shape := ⟨2, ![512, 4096]⟩
abbrev S1x1x4096 : Shape := ⟨3, ![1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S4x1x4096, .f32⟩
  | .hbm, ⟨3, _⟩ => ⟨S1x4096, .f32⟩
  | .hbm, ⟨4, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x4096 : Shape := ⟨2, ![8192, 4096]⟩
abbrev S4x1x4096 : Shape := ⟨3, ![4, 1, 4096]⟩
abbrev S1x4096 : Shape := ⟨2, ![1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S4096 : Shape := ⟨1, ![4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S4x1x4096, .f32⟩
  | .hbm, ⟨3, _⟩ => ⟨S1x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S8192x4096, .f32⟩
  | .hbm, ⟨30, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.AttnMath.lean ====
/- The arithmetic of one output row of the attention, on the extended reals: a masked row of scores in base two,
   normalized after the product with the values, is the softmax in base e normalized before it. -/
module

public import Idealize.ShloMosaic.Lib.Pointwise

@[expose] public section

noncomputable section

namespace Cert.Mix

open Idealize.ShloMosaic

/-- The base-two exponential weights of a row of scores, less the row's greatest. -/
def w2 {n : ℕ} (s : Fin n → EReal) (k : Fin n) : EReal := Ideal.exp2 (s k - Finset.univ.sup s)

/-- One element of the kernel's attention output before the normalization. -/
def kOut {n : ℕ} (s1 s2 : Fin n → EReal) (lam : EReal) (v : Fin n → EReal) : EReal :=
  (∑ k, (w2 s1 k - w2 s2 k * Ideal.div (lam * ∑ j, w2 s1 j) (∑ j, w2 s2 j)) * v k) * Ideal.div 1 (∑ j, w2 s1 j)

/-- The base-e exponential weights of a row of scores already times `ln 2`. -/
def we {n : ℕ} (s : Fin n → EReal) (k : Fin n) : EReal :=
  Ideal.exp (s k * ((Real.log 2 : ℝ) : EReal) - Finset.univ.sup fun j => s j * ((Real.log 2 : ℝ) : EReal))

/-- One element of the reference's attention output before the normalization. -/
def rOut {n : ℕ} (s1 s2 : Fin n → EReal) (lam : EReal) (v : Fin n → EReal) : EReal :=
  ∑ k, v k * (Ideal.div (we s1 k) (∑ j, we s1 j) - lam * Ideal.div (we s2 k) (∑ j, we s2 j))

/-- A row of scores: each a real number or masked to `-∞`, and not all of them masked. -/
structure GoodRow {n : ℕ} (s : Fin n → EReal) : Prop where
  ne_top : ∀ k, s k ≠ ⊤
  real : ∃ k, s k ≠ ⊥

theorem log2_pos : (0 : ℝ) < Real.log 2 := Real.log_pos (by norm_num)

theorem exp2_sub_eq (x : EReal) (hx : x ≠ ⊤) (M : ℝ) :
    Ideal.exp (x * ((Real.log 2 : ℝ) : EReal) - ((M * Real.log 2 : ℝ) : EReal)) = Ideal.exp2 (x - (M : EReal)) := by
  induction x using EReal.rec with
  | bot => rw [EReal.bot_mul_coe_of_pos log2_pos]; rw [EReal.bot_sub, EReal.bot_sub]; rfl
  | top => exact absurd rfl hx
  | coe r =>
    rw [← EReal.coe_mul, ← EReal.coe_sub, ← EReal.coe_sub]
    show ((Real.exp (r * Real.log 2 - M * Real.log 2) : ℝ) : EReal) = ((Real.rpow 2 (r - M) : ℝ) : EReal)
    congr 1
    show _ = (2 : ℝ) ^ (r - M)
    rw [Real.rpow_def_of_pos (by norm_num)]
    congr 1; ring

/-- The row's greatest score is attained, and is a real number. -/
theorem GoodRow.sup {n : ℕ} {s : Fin n → EReal} (h : GoodRow s) : ∃ (M : ℝ) (k : Fin n), Finset.univ.sup s = (M : EReal) ∧ s k = (M : EReal) := by
  obtain ⟨k₀, hk₀⟩ := h.real
  obtain ⟨k, -, hk⟩ := Finset.exists_mem_eq_sup Finset.univ ⟨k₀, Finset.mem_univ _⟩ s
  have hb : s k ≠ ⊥ := fun e => hk₀ (le_bot_iff.mp (by rw [← e, ← hk]; exact Finset.le_sup (f := s) (Finset.mem_univ k₀)))
  refine ⟨(s k).toReal, k, ?_, ?_⟩
  · rw [hk, EReal.coe_toReal (h.ne_top k) hb]
  · rw [EReal.coe_toReal (h.ne_top k) hb]

/-- Multiplying a row by `ln 2` multiplies its greatest score. -/
theorem GoodRow.sup_mul {n : ℕ} {s : Fin n → EReal} {M : ℝ} {k : Fin n}
    (hM : Finset.univ.sup s = (M : EReal)) (hk : s k = (M : EReal)) :
    (Finset.univ.sup fun j => s j * ((Real.log 2 : ℝ) : EReal)) = ((M * Real.log 2 : ℝ) : EReal) := by
  have hl : (0 : EReal) ≤ ((Real.log 2 : ℝ) : EReal) := by exact_mod_cast log2_pos.le
  apply le_antisymm
  · apply Finset.sup_le; intro j _
    rw [EReal.coe_mul, ← hM]
    exact mul_le_mul_of_nonneg_right (Finset.le_sup (f := s) (Finset.mem_univ j)) hl
  · rw [EReal.coe_mul, ← hk]
    exact Finset.le_sup (f := fun j => s j * ((Real.log 2 : ℝ) : EReal)) (Finset.mem_univ k)

/-- The two bases give one row of weights. -/
theorem GoodRow.we_eq {n : ℕ} {s : Fin n → EReal} (h : GoodRow s) : we s = w2 s := by
  obtain ⟨M, k, hM, hk⟩ := h.sup
  funext j
  unfold we w2
  rw [GoodRow.sup_mul hM hk, hM]
  exact exp2_sub_eq _ (h.ne_top j) M

theorem exp2_real (x : EReal) (hx : x ≠ ⊤) : ∃ r : ℝ, 0 ≤ r ∧ Ideal.exp2 x = (r : EReal) := by
  induction x using EReal.rec with
  | bot => exact ⟨0, le_rfl, rfl⟩
  | top => exact absurd rfl hx
  | coe r => exact ⟨Real.rpow 2 r, Real.rpow_nonneg (by norm_num) r, rfl⟩

/-- The weights are real numbers, at least zero, with a sum above zero. -/
theorem GoodRow.w2_real {n : ℕ} {s : Fin n → EReal} (h : GoodRow s) :
    ∃ p : Fin n → ℝ, (∀ j, 0 ≤ p j) ∧ 0 < ∑ j, p j ∧ ∀ j, w2 s j = (p j : EReal) := by
  obtain ⟨M, k, hM, hk⟩ := h.sup
  have hr : ∀ j, ∃ r : ℝ, 0 ≤ r ∧ w2 s j = (r : EReal) := fun j => by
    unfold w2; rw [hM]
    refine exp2_real _ fun e => ?_
    have hj := h.ne_top j
    induction hs : s j using EReal.rec with
    | bot => rw [hs] at e; simp at e
    | top => exact hj hs
    | coe r => rw [hs, ← EReal.coe_sub] at e; exact EReal.coe_ne_top _ e
  choose p hp0 hp using hr
  refine ⟨p, hp0, ?_, hp⟩
  have hk1 : p k = 1 := by
    have e := hp k
    unfold w2 at e
    rw [hM, hk, ← EReal.coe_sub, sub_self] at e
    have e' : ((Real.rpow 2 0 : ℝ) : EReal) = (p k : EReal) := e
    have e'' := EReal.coe_eq_coe_iff.mp e'
    rw [← e'']; exact Real.rpow_zero 2
  calc (0 : ℝ) < p k := by rw [hk1]; norm_num
    _ ≤ ∑ j, p j := Finset.single_le_sum (f := p) (fun j _ => hp0 j) (Finset.mem_univ k)

theorem coe_sum {n : ℕ} (p : Fin n → ℝ) : (∑ j, (p j : EReal)) = ((∑ j, p j : ℝ) : EReal) := by
  induction n with
  | zero => simp
  | succ n ih => rw [Fin.sum_univ_succ, Fin.sum_univ_succ, ih, EReal.coe_add]

theorem div_pos_coe (x : EReal) {l : ℝ} (hl : 0 < l) : Ideal.div x (l : EReal) = x * ((l⁻¹ : ℝ) : EReal) := by
  unfold Ideal.div
  rw [if_neg (by exact_mod_cast hl.ne'), EReal.coe_inv]

/-- A factor that is a real number at least zero goes out of a sum. -/
theorem sum_mul_coe {ι : Type} (t : Finset ι) (f : ι → EReal) {c : ℝ} (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

theorem sub_mul_coe (x y : EReal) {c : ℝ} (hc : 0 ≤ c) : (x - y) * (c : EReal) = x * (c : EReal) - y * (c : EReal) := by
  rw [sub_eq_add_neg, sub_eq_add_neg, EReal.right_distrib_of_nonneg_of_ne_top (by exact_mod_cast hc) (EReal.coe_ne_top c), EReal.neg_mul]

/-- One row of the same length on both sides. -/
theorem kOut_eq_rOut {n : ℕ} {s1 s2 : Fin n → EReal} (h1 : GoodRow s1) (h2 : GoodRow s2) (lam : EReal) (v : Fin n → EReal) :
    kOut s1 s2 lam v = rOut s1 s2 lam v := by
  unfold kOut rOut
  rw [h1.we_eq, h2.we_eq]
  obtain ⟨p, hp0, hp, hpe⟩ := h1.w2_real
  obtain ⟨q, hq0, hq, hqe⟩ := h2.w2_real
  simp only [hpe, hqe, coe_sum]
  generalize hl1 : ∑ j, p j = l1 at *
  generalize hl2 : ∑ j, q j = l2 at *
  have e1 : (l1 : EReal) * ((l1⁻¹ : ℝ) : EReal) = 1 := by rw [← EReal.coe_mul, mul_inv_cancel₀ hp.ne']; rfl
  have i1 : 0 ≤ l1⁻¹ := inv_nonneg.mpr hp.le
  simp only [div_pos_coe _ hp, div_pos_coe _ hq, one_mul]
  rw [sum_mul_coe _ _ i1]
  refine Finset.sum_congr rfl fun k _ => ?_
  rw [mul_right_comm, sub_mul_coe _ _ i1, mul_comm (v k)]
  congr 2
  calc (q k : EReal) * (lam * (l1 : EReal) * ((l2⁻¹ : ℝ) : EReal)) * ((l1⁻¹ : ℝ) : EReal)
      = lam * ((q k : EReal) * ((l2⁻¹ : ℝ) : EReal)) * ((l1 : EReal) * ((l1⁻¹ : ℝ) : EReal)) := by ac_rfl
    _ = _ := by rw [e1, mul_one]

/-! ## Masked keys left out -/

theorem sum_restrict {T N : ℕ} (h : T ≤ N) (f : Fin N → EReal) (hz : ∀ k : Fin N, T ≤ k.val → f k = 0) :
    ∑ k, f k = ∑ k : Fin T, f (Fin.castLE h k) := by
  obtain ⟨d, rfl⟩ := Nat.exists_eq_add_of_le h
  rw [Fin.sum_univ_add, Finset.sum_eq_zero (s := Finset.univ) (f := fun i : Fin d => f (Fin.natAdd T i)), add_zero]
  · rfl
  · intro i _; exact hz _ (by simp)

theorem sup_restrict {T N : ℕ} (h : T ≤ N) (f : Fin N → EReal) (hz : ∀ k : Fin N, T ≤ k.val → f k = ⊥) :
    Finset.univ.sup f = Finset.univ.sup fun k : Fin T => f (Fin.castLE h k) := by
  apply le_antisymm
  · apply Finset.sup_le; intro k _
    by_cases hk : k.val < T
    · exact Finset.le_sup (f := fun k : Fin T => f (Fin.castLE h k)) (Finset.mem_univ ⟨k.val, hk⟩)
    · rw [hz k (by omega)]; exact bot_le
  · apply Finset.sup_le; intro k _
    exact Finset.le_sup (f := f) (Finset.mem_univ _)

/-- The reference's row over every key is its row over the first `T`, where the others are masked. -/
theorem rOut_restrict {T N : ℕ} (h : T ≤ N) {s1 s2 : Fin N → EReal} (lam : EReal) (v : Fin N → EReal)
    (g1 : GoodRow fun k : Fin T => s1 (Fin.castLE h k)) (g2 : GoodRow fun k : Fin T => s2 (Fin.castLE h k))
    (z1 : ∀ k : Fin N, T ≤ k.val → s1 k = ⊥) (z2 : ∀ k : Fin N, T ≤ k.val → s2 k = ⊥) :
    rOut s1 s2 lam v = rOut (fun k : Fin T => s1 (Fin.castLE h k)) (fun k : Fin T => s2 (Fin.castLE h k)) lam fun k => v (Fin.castLE h k) := by
  have key : ∀ {s : Fin N → EReal} (g : GoodRow fun k : Fin T => s (Fin.castLE h k)) (z : ∀ k : Fin N, T ≤ k.val → s k = ⊥),
      (∀ k : Fin N, T ≤ k.val → we s k = 0) ∧ (∀ k : Fin T, we s (Fin.castLE h k) = we (fun k : Fin T => s (Fin.castLE h k)) k) ∧
        (∑ j, we s j) = ∑ j, we (fun k : Fin T => s (Fin.castLE h k)) j := by
    intro s g z
    obtain ⟨M, k₀, hM, hk⟩ := g.sup
    have hs : (Finset.univ.sup fun j => s j * ((Real.log 2 : ℝ) : EReal)) = ((M * Real.log 2 : ℝ) : EReal) := by
      rw [sup_restrict h _ fun k hk => by rw [z k hk, EReal.bot_mul_coe_of_pos log2_pos]]
      exact GoodRow.sup_mul hM hk
    have h0 : ∀ k : Fin N, T ≤ k.val → we s k = 0 := fun k hk' => by
      unfold we; rw [hs, z k hk', EReal.bot_mul_coe_of_pos log2_pos, EReal.bot_sub]; rfl
    have he : ∀ k : Fin T, we s (Fin.castLE h k) = we (fun k : Fin T => s (Fin.castLE h k)) k := fun k => by
      unfold we; rw [hs, GoodRow.sup_mul hM hk]
    exact ⟨h0, he, by rw [sum_restrict h _ h0]; exact Finset.sum_congr rfl fun k _ => he k⟩
  obtain ⟨a0, ae, ha⟩ := key g1 z1
  obtain ⟨b0, be, hb⟩ := key g2 z2
  obtain ⟨p, -, hp, hpe⟩ := g1.w2_real
  obtain ⟨q, -, hq, hqe⟩ := g2.w2_real
  have sp : (∑ j, we (fun k : Fin T => s1 (Fin.castLE h k)) j) = ((∑ j, p j : ℝ) : EReal) := by
    rw [g1.we_eq, ← coe_sum]; exact Finset.sum_congr rfl fun k _ => hpe k
  have sq : (∑ j, we (fun k : Fin T => s2 (Fin.castLE h k)) j) = ((∑ j, q j : ℝ) : EReal) := by
    rw [g2.we_eq, ← coe_sum]; exact Finset.sum_congr rfl fun k _ => hqe k
  unfold rOut
  rw [ha, hb, sum_restrict h]
  · exact Finset.sum_congr rfl fun k _ => by rw [ae, be]
  · intro k hk
    rw [a0 k hk, b0 k hk, sp, sq, div_pos_coe _ hp, div_pos_coe _ hq]
    simp

/-- **The row**: what the kernel computes over the keys up to the row's block is what the reference computes over every key. -/
theorem kOut_eq_rOut_restrict {T N : ℕ} (h : T ≤ N) {s1 s2 : Fin N → EReal} (lam : EReal) (v : Fin N → EReal)
    (g1 : GoodRow fun k : Fin T => s1 (Fin.castLE h k)) (g2 : GoodRow fun k : Fin T => s2 (Fin.castLE h k))
    (z1 : ∀ k : Fin N, T ≤ k.val → s1 k = ⊥) (z2 : ∀ k : Fin N, T ≤ k.val → s2 k = ⊥) :
    kOut (fun k : Fin T => s1 (Fin.castLE h k)) (fun k : Fin T => s2 (Fin.castLE h k)) lam (fun k => v (Fin.castLE h k)) = rOut s1 s2 lam v := by
  rw [rOut_restrict h lam v g1 g2 z1 z2, kOut_eq_rOut g1 g2]

end Cert.Mix

end
-- ==== Proof.AttnBlock.lean ====
/- One block of 128 rows of the kernel's attention, at any number `T` of keys: the operations the kernel applies to the
   block's scores, values and scales, and what they leave at an index. -/
module

public import proofs.«01_k».proof.Proof.AttnMath
public import Idealize.ShloMosaic.Lib.Pointwise.IndexVar

@[expose] public section

noncomputable section

namespace Cert.Mix

open Idealize.ShloMosaic

abbrev SR (T : ℕ) : Shape := ⟨2, ![128, T]⟩
abbrev SK (T : ℕ) : Shape := ⟨2, ![T, 128]⟩
abbrev SV (T : ℕ) : Shape := ⟨2, ![T, 256]⟩
abbrev SC : Shape := ⟨2, ![128, 1]⟩
abbrev SL : Shape := ⟨1, ![128]⟩
abbrev SG : Shape := ⟨2, ![1, 256]⟩
abbrev SO : Shape := ⟨2, ![128, 256]⟩
abbrev SU : Shape := ⟨2, ![1, 1]⟩

/-- The shape facts of a block with `T` keys. -/
structure BT (T : ℕ) : Prop where
  red : (SR T).Reduces [1] SL
  bro : SC.Broadcasts (SR T)
  qk : DotDims.WF (SR 128) (SK T) (SR T) [1] [1] [0] [0] [] []
  av : DotDims.WF (SR T) (SV T) SO [1] [0] [0] [1] [] []

/-- The shape facts of the masking of a block with `U` keys before its last 128. -/
structure BU (U T : ℕ) : Prop where
  sum : U + 128 = T
  lo : (SR T).Slices ![0, 0] (SR U)
  hi : (SR T).Slices ![0, U] (SR 128)
  cat : Shape.Concatenates [SR U, SR 128] (SR T) 1

def dQK {T : ℕ} (h : BT T) : DotDims (SR 128) (SK T) (SR T) where
  lhsContracting := [1]
  rhsContracting := [1]
  lhsNonContracting := [0]
  rhsNonContracting := [0]
  lhsBatch := []
  rhsBatch := []
  wf := h.qk

def dAV {T : ℕ} (h : BT T) : DotDims (SR T) (SV T) SO where
  lhsContracting := [1]
  rhsContracting := [0]
  lhsNonContracting := [0]
  rhsNonContracting := [1]
  lhsBatch := []
  rhsBatch := []
  wf := h.av

theorem sc_cast : SL.ShapeCasts SC := by decide
theorem so_red : SO.Reduces [1] SL := by decide
theorem so_bro : SC.Broadcasts SO := by decide
theorem sg_bro : SG.Broadcasts SO := by decide
theorem su_bro : SU.Broadcasts SC := by decide
theorem lt16 : FTy.bf16.bits < FTy.f32.bits := by decide

/-- Scores of the block's queries against the keys. -/
def scoresB {T : ℕ} (h : BT T) (q : FVec Ideal (SR 128) .bf16) (k : FVec Ideal (SK T) .bf16) : FVec Ideal (SR T) .f32 :=
  matmul (dQK h) none q k (constant (SR T) .f32 0x00000000#32)

/-- A tile of scores with the keys after the row masked. -/
def diagB (c : IVec (SR 128) 1) (s : FVec Ideal (SR 128) .f32) : FVec Ideal (SR 128) .f32 :=
  select c s (broadcast (SR 128) (Scalar.ofBits .f32 0xFF800000#32))

/-- The block's scores with its last tile masked. -/
def maskB {U T : ℕ} (h : BU U T) (c : IVec (SR 128) 1) (s : FVec Ideal (SR T) .f32) : FVec Ideal (SR T) .f32 :=
  concatenate (SR T) 1 [⟨SR U, extractStridedSlice (SR U) ![0, 0] s h.lo⟩, ⟨SR 128, diagB c (extractStridedSlice (SR 128) ![0, U] s h.hi)⟩] h.cat

/-- The base-two weights of the block. -/
def expB {T : ℕ} (h : BT T) (s : FVec Ideal (SR T) .f32) : FVec Ideal (SR T) .f32 :=
  exp2 (subf s (broadcastTo (SR T) (shapeCast SC (multiReduction .maximumf [1] SL s 0xFF800000#32 h.red (.inl rfl) rfl) sc_cast) h.bro))

/-- Each row's sum of weights. -/
def totB {T : ℕ} (h : BT T) (p : FVec Ideal (SR T) .f32) : FVec Ideal SC .f32 :=
  shapeCast SC (multiReduction .add [1] SL p 0x00000000#32 h.red (.inl rfl) rfl) sc_cast

/-- The difference of the two maps' weights, scaled by the first map's sum. -/
def combB {T : ℕ} (h : BT T) (lam : FVec Ideal SU .f32) (s1 s2 : FVec Ideal (SR T) .f32) : FVec Ideal (SR T) .bf16 :=
  truncf .bf16 (subf (expB h s1) (mulf (expB h s2) (broadcastTo (SR T) (divf (mulf (broadcastTo SC lam su_bro) (totB h (expB h s1))) (totB h (expB h s2))) h.bro))) lt16

/-- The product with the values, over the first map's sum. -/
def prodB {T : ℕ} (h : BT T) (lam : FVec Ideal SU .f32) (s1 s2 : FVec Ideal (SR T) .f32) (v : FVec Ideal (SV T) .bf16) : FVec Ideal SO .f32 :=
  mulf (matmul (dAV h) none (combB h lam s1 s2) v (constant SO .f32 0x00000000#32))
    (broadcastTo SO (divf (broadcast SC (Scalar.ofBits .f32 0x3F800000#32)) (totB h (expB h s1))) so_bro)

/-- The normalization of a block of outputs. -/
def normB (sg : FVec Ideal SG .f32) (o : FVec Ideal SO .f32) : FVec Ideal SO .bf16 :=
  truncf .bf16 (mulf (mulf (mulf o (broadcastTo SO (rsqrt (addf (divf (shapeCast SC (multiReduction .add [1] SL (mulf o o) 0x00000000#32 so_red (.inl rfl) rfl) sc_cast)
    (broadcast SC (Scalar.ofBits .f32 0x43800000#32))) (broadcast SC (Scalar.ofBits .f32 0x358637BD#32)))) so_bro)) (broadcastTo SO sg sg_bro))
      (broadcast SO (Scalar.ofBits .f32 0x3F4CCCCD#32))) lt16

/-- The normalization of one row. -/
def normRow (g : Fin 256 → EReal) (o : Fin 256 → EReal) (e : Fin 256) : EReal :=
  o e * Ideal.rsqrt (Ideal.div (∑ k, o k * o k) (Ideal.ofBits .f32 0x43800000#32) + Ideal.ofBits .f32 0x358637BD#32) * g e * Ideal.ofBits .f32 0x3F4CCCCD#32

theorem scoresB_apply {T : ℕ} (h : BT T) (q : FVec Ideal (SR 128) .bf16) (k : FVec Ideal (SK T) .bf16) (r : Fin 128) (j : Fin T) :
    scoresB h q k (ix2 r j) = ∑ d : Fin 128, q (ix2 r d) * k (ix2 j d) := by
  pointwise [scoresB, dQK]

theorem normB_apply (sg : FVec Ideal SG .f32) (o : FVec Ideal SO .f32) (r : Fin 128) (e : Fin 256) :
    normB sg o (ix2 r e) = normRow (fun e => sg (ix2 0 e)) (fun e => o (ix2 r e)) e := by
  pointwise [normB, normRow]

theorem expB_apply {T : ℕ} (h : BT T) (s : FVec Ideal (SR T) .f32) (r : Fin 128) (j : Fin T) :
    expB h s (ix2 r j) = w2 (fun k => s (ix2 r k)) j := by
  pointwise [expB, w2]
  show Ideal.exp2 (s (ix2 r j) - Finset.fold max (Ideal.ofBits FTy.f32 4286578688#32) (fun x => s (ix2 r x)) Finset.univ) = _
  rw [show Ideal.ofBits FTy.f32 4286578688#32 = ⊥ by rfl]
  rfl

theorem totB_apply {T : ℕ} (h : BT T) (s : FVec Ideal (SR T) .f32) (r : Fin 128) :
    totB h s (ix2 r 0) = ∑ k, s (ix2 r k) := by
  pointwise [totB]

theorem combB_apply {T : ℕ} (h : BT T) (lam : FVec Ideal SU .f32) (s1 s2 : FVec Ideal (SR T) .f32) (r : Fin 128) (k : Fin T) :
    combB h lam s1 s2 (ix2 r k) = w2 (fun k => s1 (ix2 r k)) k - w2 (fun k => s2 (ix2 r k)) k *
      Ideal.div (lam (ix2 0 0) * ∑ j, w2 (fun k => s1 (ix2 r k)) j) (∑ j, w2 (fun k => s2 (ix2 r k)) j) := by
  pointwise [combB, totB_apply, expB_apply]

theorem av_apply {T : ℕ} (h : BT T) (a : FVec Ideal (SR T) .bf16) (v : FVec Ideal (SV T) .bf16) (r : Fin 128) (e : Fin 256) :
    matmul (dAV h) none a v (constant SO .f32 0x00000000#32) (ix2 r e) = ∑ k : Fin T, a (ix2 r k) * v (ix2 k e) := by
  refine (Ideal.matmul_apply₁_of (a := 1) (K := T) (dAV h) rfl rfl a v _ (ix2 r e) (fun k => ix2 r k) (fun k => ix2 k e) ?_ ?_).trans ?_
  · intro k; pointwise [dAV]
  · intro k; pointwise [dAV]
  · pointwise

/-- **The block's output** at an index, before the normalization: one row of `kOut`. -/
theorem prodB_apply {T : ℕ} (h : BT T) (lam : FVec Ideal SU .f32) (s1 s2 : FVec Ideal (SR T) .f32) (v : FVec Ideal (SV T) .bf16)
    (r : Fin 128) (e : Fin 256) :
    prodB h lam s1 s2 v (ix2 r e) = kOut (fun k => s1 (ix2 r k)) (fun k => s2 (ix2 r k)) (lam (ix2 0 0)) fun k => v (ix2 k e) := by
  unfold prodB kOut
  have hs : (broadcastTo SO (divf (broadcast SC (Scalar.ofBits .f32 0x3F800000#32)) (totB h (expB h s1))) so_bro : FVec Ideal SO .f32) (ix2 r e)
      = Ideal.div 1 (∑ j, w2 (fun k => s1 (ix2 r k)) j) := by
    pointwise [totB_apply, expB_apply]
  refine (congrArg₂ (fun a b : EReal => a * b) (av_apply h _ v r e) hs).trans ?_
  simp only [combB_apply]

theorem diagB_apply (c : IVec (SR 128) 1) (s : FVec Ideal (SR 128) .f32) (r j : Fin 128) :
    diagB c s (ix2 r j) = if c (ix2 r j) = 1#1 then s (ix2 r j) else ⊥ := by
  pointwise [diagB]
  rfl

theorem maskB_apply {U T : ℕ} (h : BU U T) (c : IVec (SR 128) 1) (s : FVec Ideal (SR T) .f32) (r : Fin 128) (j : Fin T) :
    maskB h c s (ix2 r j) = if hj : j.val < U then s (ix2 r j) else if c (ix2 r ⟨j.val - U, by have := h.sum; have := j.isLt; omega⟩) = 1#1 then s (ix2 r j) else ⊥ := by
  pointwise [maskB, diagB_apply]
  split
  · rfl
  · have e : (⟨U + (j.val - U), by have := j.isLt; omega⟩ : Fin T) = j := Fin.ext (by show U + (j.val - U) = j.val; omega)
    rw [e]

end Cert.Mix

end
-- ==== Proof.AttnRow.lean ====
/- A block of the kernel's attention against the reference's rows: with every query and key a real number, row `r` of the
   block whose keys are the first `U + 128` is the reference's row `U + r` over all 2048 keys. -/
module

public import proofs.«01_k».proof.Proof.AttnBlock

@[expose] public section

noncomputable section

namespace Cert.Mix

open Idealize.ShloMosaic

abbrev SQ : Shape := ⟨2, ![2048, 256]⟩

/-- The reference's masked row of scores of query `t` against every key, over the 128 columns from column `o`. -/
def refScore (q k : SQ.Idx → EReal) (o : ℕ) (ho : o + 128 ≤ 256) (t j : Fin 2048) : EReal :=
  if j.val ≤ t.val then ∑ d : Fin 128, q (ix2 t ⟨o + d.val, by omega⟩) * k (ix2 j ⟨o + d.val, by omega⟩) else ⊥

/-- One head's attention output at row `t` and column `e`. -/
def refAttn (g : Fin 256 → EReal) (lam : EReal) (q k v : SQ.Idx → EReal) (t : Fin 2048) (e : Fin 256) : EReal :=
  normRow g (fun e => rOut (refScore q k 0 (by omega) t) (refScore q k 128 (by omega) t) lam fun j => v (ix2 j e)) e

/-- Every element a real number. -/
def AllReal {s : Shape} (x : s.Idx → EReal) : Prop := ∀ i, ∃ r : ℝ, x i = (r : EReal)

theorem sum_prod_real {n : ℕ} (a b : Fin n → EReal) (ha : ∀ d, ∃ r : ℝ, a d = (r : EReal)) (hb : ∀ d, ∃ r : ℝ, b d = (r : EReal)) :
    ∃ r : ℝ, ∑ d, a d * b d = (r : EReal) := by
  choose p hp using ha
  choose q hq using hb
  refine ⟨∑ d, p d * q d, ?_⟩
  rw [← coe_sum]
  exact Finset.sum_congr rfl fun d _ => by rw [hp, hq, ← EReal.coe_mul]

theorem refScore_good {q k : SQ.Idx → EReal} (hq : AllReal q) (hk : AllReal k) (o : ℕ) (ho : o + 128 ≤ 256) (t : Fin 2048) {T : ℕ} (hT : T ≤ 2048)
    (ht : t.val < T) : GoodRow fun j : Fin T => refScore q k o ho t (Fin.castLE hT j) := by
  have hs : ∀ j : Fin 2048, ∃ r : ℝ, ∑ d : Fin 128, q (ix2 t ⟨o + d.val, by omega⟩) * k (ix2 j ⟨o + d.val, by omega⟩) = (r : EReal) :=
    fun j => sum_prod_real _ _ (fun d => hq _) (fun d => hk _)
  constructor
  · intro j
    unfold refScore
    split
    · obtain ⟨r, hr⟩ := hs (Fin.castLE hT j); rw [hr]; exact EReal.coe_ne_top r
    · exact bot_ne_top
  · refine ⟨⟨t.val, ht⟩, ?_⟩
    unfold refScore
    rw [if_pos (show (Fin.castLE hT ⟨t.val, ht⟩).val ≤ t.val from le_refl _)]
    obtain ⟨r, hr⟩ := hs (Fin.castLE hT ⟨t.val, ht⟩); rw [hr]; exact EReal.coe_ne_bot r

/-- The mask of the block's last tile: keys up to the row. -/
def IsCausal (c : IVec (SR 128) 1) : Prop := ∀ r j : Fin 128, c (ix2 r j) = 1#1 ↔ j.val ≤ r.val

/-- The block's output, from masked scores. -/
def outB {T : ℕ} (h : BT T) (sg : FVec Ideal SG .f32) (lam : FVec Ideal SU .f32) (s1 s2 : FVec Ideal (SR T) .f32) (v : FVec Ideal (SV T) .bf16) : FVec Ideal SO .bf16 :=
  normB sg (prodB h lam s1 s2 v)

theorem outB_apply {T : ℕ} (h : BT T) (hT : T ≤ 2048) (sg : FVec Ideal SG .f32) (lam : FVec Ideal SU .f32) (s1 s2 : FVec Ideal (SR T) .f32) (v : FVec Ideal (SV T) .bf16)
    {Q K V : SQ.Idx → EReal} (hQ : AllReal Q) (hK : AllReal K) (r : Fin 128) (e : Fin 256) (t : Fin 2048) (ht : t.val < T)
    (h1 : ∀ j : Fin T, s1 (ix2 r j) = refScore Q K 0 (by omega) t (Fin.castLE hT j))
    (h2 : ∀ j : Fin T, s2 (ix2 r j) = refScore Q K 128 (by omega) t (Fin.castLE hT j))
    (hz : ∀ j : Fin 2048, T ≤ j.val → t.val < j.val)
    (hv : ∀ (j : Fin T) (e : Fin 256), v (ix2 j e) = V (ix2 (Fin.castLE hT j) e)) :
    outB h sg lam s1 s2 v (ix2 r e) = refAttn (fun e => sg (ix2 0 e)) (lam (ix2 0 0)) Q K V t e := by
  unfold outB refAttn
  rw [normB_apply]
  congr 1
  funext e'
  rw [prodB_apply, funext h1, funext h2, funext fun j => hv j e']
  exact kOut_eq_rOut_restrict hT _ (fun j => V (ix2 j e')) (refScore_good hQ hK 0 _ t hT ht) (refScore_good hQ hK 128 _ t hT ht)
    (fun j hj => by unfold refScore; rw [if_neg]; have := hz j hj; omega) (fun j hj => by unfold refScore; rw [if_neg]; have := hz j hj; omega)

/-- A masked row of a block with keys before its last tile. -/
theorem maskB_score {U T : ℕ} (h : BT T) (hU : BU U T) (hT : T ≤ 2048) (c : IVec (SR 128) 1) (hc : IsCausal c)
    (q : FVec Ideal (SR 128) .bf16) (k : FVec Ideal (SK T) .bf16) {Q K : SQ.Idx → EReal} (o : ℕ) (ho : o + 128 ≤ 256)
    (hq : ∀ r d : Fin 128, q (ix2 r d) = Q (ix2 ⟨U + r.val, by have := hU.sum; omega⟩ ⟨o + d.val, by omega⟩))
    (hk : ∀ (j : Fin T) (d : Fin 128), k (ix2 j d) = K (ix2 (Fin.castLE hT j) ⟨o + d.val, by omega⟩)) (r : Fin 128) (j : Fin T) :
    maskB hU c (scoresB h q k) (ix2 r j) = refScore Q K o ho ⟨U + r.val, by have := hU.sum; omega⟩ (Fin.castLE hT j) := by
  rw [maskB_apply, scoresB_apply]
  unfold refScore
  simp only [hq, hk, Fin.val_castLE]
  by_cases hj : j.val < U
  · rw [dif_pos hj, if_pos (by omega)]
  · rw [dif_neg hj]
    refine if_congr ?_ rfl rfl
    rw [hc]
    show j.val - U ≤ r.val ↔ j.val ≤ U + r.val
    omega

/-- A masked row of the first block. -/
theorem diagB_score (h : BT 128) (c : IVec (SR 128) 1) (hc : IsCausal c)
    (q : FVec Ideal (SR 128) .bf16) (k : FVec Ideal (SK 128) .bf16) {Q K : SQ.Idx → EReal} (o : ℕ) (ho : o + 128 ≤ 256)
    (hq : ∀ r d : Fin 128, q (ix2 r d) = Q (ix2 ⟨r.val, by omega⟩ ⟨o + d.val, by omega⟩))
    (hk : ∀ (j : Fin 128) (d : Fin 128), k (ix2 j d) = K (ix2 (Fin.castLE (by omega) j) ⟨o + d.val, by omega⟩)) (r : Fin 128) (j : Fin 128) :
    diagB c (scoresB h q k) (ix2 r j) = refScore Q K o ho ⟨r.val, by omega⟩ (Fin.castLE (by omega) j) := by
  rw [diagB_apply, scoresB_apply]
  unfold refScore
  simp only [hq, hk, Fin.val_castLE]
  exact if_congr (hc r j) rfl rfl

end Cert.Mix

end
-- ==== Proof.AttnLoad.lean ====
/- The row blocks of the kernel's attention, with their queries, keys and values read from whole blocks: each is the reference's
   attention of those. -/
module

public import proofs.«01_k».proof.Proof.AttnRow
public import Idealize.ShloMosaic.Lib.Pipeline.Value
public import Idealize.ShloMosaic.Lib.Pipeline.ValueKit

@[expose] public section

set_option maxRecDepth 16384
noncomputable section

namespace Cert.Mix

open Idealize.ShloMosaic

/-- The whole block's attention. -/
def attnBlk (sg : SG.Idx → EReal) (lam : SU.Idx → EReal) (q k v : SQ.Idx → EReal) (y : SQ.Idx) : EReal :=
  refAttn (fun e => sg (ix2 0 e)) (lam (ix2 0 0)) q k v (y 0) (y 1)

/-- A load of a rectangle of a block of queries, keys or values. -/
abbrev ldq (a b : ℕ) (X : SQ.Idx → EReal) (o1 o2 : ℕ) (inb : ∀ i, (![o1, o2] : Fin 2 → ℕ) i + (![a, b] : Fin 2 → ℕ) i ≤ SQ.size i) : (⟨2, ![a, b]⟩ : Shape).Idx → EReal :=
  View.ld (Val := Elt Ideal) (e' := .bf16) X (Rect.unit ![o1, o2] ![a, b] inb)

theorem ld_at {a b o1 o2 : ℕ} (X : SQ.Idx → EReal)
    (inb : ∀ i, (![o1, o2] : Fin 2 → ℕ) i + (![a, b] : Fin 2 → ℕ) i ≤ SQ.size i) (r : Fin a) (e : Fin b) (h1 : o1 + r.val < 2048) (h2 : o2 + e.val < 256) :
    ldq a b X o1 o2 inb (ix2 r e) = X (ix2 ⟨o1 + r.val, h1⟩ ⟨o2 + e.val, h2⟩) :=
  View.ld_unit_apply_of (Val := Elt Ideal) (e := .bf16) X ![o1, o2] ![a, b] inb (ix2 r e) (ix2 ⟨o1 + r.val, h1⟩ ⟨o2 + e.val, h2⟩) fun i => match i with
    | ⟨0, _⟩ => rfl
    | ⟨1, _⟩ => rfl

/-- A row block after the first. -/
theorem outB_mask {U T : ℕ} (h : BT T) (hU : BU U T) (hT : T ≤ 2048) (sg : FVec Ideal SG .f32) (lam : FVec Ideal SU .f32) (c : IVec (SR 128) 1) (hc : IsCausal c)
    (x8 x9 x10 : SQ.Idx → EReal) (h8 : AllReal x8) (h9 : AllReal x9)
    (b1 : ∀ i, (![U, 0] : Fin 2 → ℕ) i + (![128, 128] : Fin 2 → ℕ) i ≤ SQ.size i) (b2 : ∀ i, (![0, 0] : Fin 2 → ℕ) i + (![T, 128] : Fin 2 → ℕ) i ≤ SQ.size i)
    (b3 : ∀ i, (![U, 128] : Fin 2 → ℕ) i + (![128, 128] : Fin 2 → ℕ) i ≤ SQ.size i) (b4 : ∀ i, (![0, 128] : Fin 2 → ℕ) i + (![T, 128] : Fin 2 → ℕ) i ≤ SQ.size i)
    (b5 : ∀ i, (![0, 0] : Fin 2 → ℕ) i + (![T, 256] : Fin 2 → ℕ) i ≤ SQ.size i) (b6 : ∀ i, (![U, 0] : Fin 2 → ℕ) i + (![128, 256] : Fin 2 → ℕ) i ≤ SQ.size i)
    (x : (Rect.unit (s := SQ) ![U, 0] ![128, 256] b6).shape.Idx) :
    outB h sg lam
      (maskB hU c (scoresB h (ldq 128 128 x8 U 0 b1) (ldq T 128 x9 0 0 b2)))
      (maskB hU c (scoresB h (ldq 128 128 x8 U 128 b3) (ldq T 128 x9 0 128 b4)))
      (ldq T 256 x10 0 0 b5) x
    = attnBlk sg lam x8 x9 x10 ((Rect.unit (s := SQ) ![U, 0] ![128, 256] b6).emb x) := by
  have hs := hU.sum
  obtain ⟨r, e, rfl⟩ : ∃ (r : Fin 128) (e : Fin 256), x = ix2 r e := ⟨x 0, x 1, (ix2_eta x).symm⟩
  have hq : ∀ (o : ℕ) (ho : o + 128 ≤ 256) (b : ∀ i, (![U, o] : Fin 2 → ℕ) i + (![128, 128] : Fin 2 → ℕ) i ≤ SQ.size i) (r d : Fin 128),
      ldq 128 128 x8 U o b (ix2 r d) = x8 (ix2 ⟨U + r.val, by omega⟩ ⟨o + d.val, by omega⟩) :=
    fun o ho b r d => ld_at x8 b r d _ _
  have hk : ∀ (o : ℕ) (ho : o + 128 ≤ 256) (b : ∀ i, (![0, o] : Fin 2 → ℕ) i + (![T, 128] : Fin 2 → ℕ) i ≤ SQ.size i) (j : Fin T) (d : Fin 128),
      ldq T 128 x9 0 o b (ix2 j d) = x9 (ix2 (Fin.castLE hT j) ⟨o + d.val, by omega⟩) :=
    fun o ho b j d => (ld_at x9 b j d (by omega) (by omega)).trans (congrArg (fun k => x9 (ix2 k _)) (Fin.ext (by show 0 + j.val = j.val; omega)))
  refine (outB_apply h hT sg lam _ _ _ h8 h9 r e ⟨U + r.val, by omega⟩ (by show U + r.val < T; omega)
    (fun j => maskB_score h hU hT c hc _ _ 0 (by omega) (hq 0 (by omega) b1) (hk 0 (by omega) b2) r j)
    (fun j => maskB_score h hU hT c hc _ _ 128 (by omega) (hq 128 (by omega) b3) (hk 128 (by omega) b4) r j)
    (fun j hj => by show U + r.val < j.val; omega)
    (V := x10) (fun j e => (ld_at x10 b5 j e (by omega) (by omega)).trans
      (congrArg₂ (fun k l => x10 (ix2 k l)) (Fin.ext (by show 0 + j.val = j.val; omega)) (Fin.ext (by show 0 + e.val = e.val; omega))))).trans ?_
  unfold attnBlk
  refine congrArg₂ (refAttn _ _ x8 x9 x10) (Fin.ext ?_) (Fin.ext ?_)
  · show U + r.val = U + 1 * r.val; omega
  · show e.val = 0 + 1 * e.val; omega

/-- The first row block. -/
theorem outB_diag (h : BT 128) (sg : FVec Ideal SG .f32) (lam : FVec Ideal SU .f32) (c : IVec (SR 128) 1) (hc : IsCausal c)
    (x8 x9 x10 : SQ.Idx → EReal) (h8 : AllReal x8) (h9 : AllReal x9)
    (b1 : ∀ i, (![0, 0] : Fin 2 → ℕ) i + (![128, 128] : Fin 2 → ℕ) i ≤ SQ.size i)
    (b3 : ∀ i, (![0, 128] : Fin 2 → ℕ) i + (![128, 128] : Fin 2 → ℕ) i ≤ SQ.size i)
    (b5 : ∀ i, (![0, 0] : Fin 2 → ℕ) i + (![128, 256] : Fin 2 → ℕ) i ≤ SQ.size i)
    (x : (Rect.unit (s := SQ) ![0, 0] ![128, 256] b5).shape.Idx) :
    outB h sg lam
      (diagB c (scoresB h (ldq 128 128 x8 0 0 b1) (ldq 128 128 x9 0 0 b1)))
      (diagB c (scoresB h (ldq 128 128 x8 0 128 b3) (ldq 128 128 x9 0 128 b3)))
      (ldq 128 256 x10 0 0 b5) x
    = attnBlk sg lam x8 x9 x10 ((Rect.unit (s := SQ) ![0, 0] ![128, 256] b5).emb x) := by
  obtain ⟨r, e, rfl⟩ : ∃ (r : Fin 128) (e : Fin 256), x = ix2 r e := ⟨x 0, x 1, (ix2_eta x).symm⟩
  have hl : ∀ (z : SQ.Idx → EReal) (o : ℕ) (ho : o + 128 ≤ 256) (b : ∀ i, (![0, o] : Fin 2 → ℕ) i + (![128, 128] : Fin 2 → ℕ) i ≤ SQ.size i) (j : Fin 128) (d : Fin 128),
      ldq 128 128 z 0 o b (ix2 j d) = z (ix2 ⟨j.val, by omega⟩ ⟨o + d.val, by omega⟩) :=
    fun z o ho b j d => (ld_at z b j d (by omega) (by omega)).trans (congrArg (fun k => z (ix2 k _)) (Fin.ext (by show 0 + j.val = j.val; omega)))
  refine (outB_apply h (by omega) sg lam _ _ _ h8 h9 r e ⟨r.val, by omega⟩ (by show r.val < 128; omega)
    (fun j => diagB_score h c hc _ _ 0 (by omega) (hl x8 0 (by omega) b1) (hl x9 0 (by omega) b1) r j)
    (fun j => diagB_score h c hc _ _ 128 (by omega) (hl x8 128 (by omega) b3) (hl x9 128 (by omega) b3) r j)
    (fun j hj => by show r.val < j.val; omega)
    (V := x10) (fun j e => (ld_at x10 b5 j e (by omega) (by omega)).trans
      (congrArg₂ (fun k l => x10 (ix2 k l)) (Fin.ext (by show 0 + j.val = j.val; omega)) (Fin.ext (by show 0 + e.val = e.val; omega))))).trans ?_
  unfold attnBlk
  refine congrArg₂ (refAttn _ _ x8 x9 x10) (Fin.ext ?_) (Fin.ext ?_)
  · show r.val = 0 + 1 * r.val; omega
  · show e.val = 0 + 1 * e.val; omega

end Cert.Mix
end
-- ==== Proof.AttnOut.lean ====
/- What the attention case of the mixing call writes: every one of its sixteen row blocks is the reference's attention of the
   block's queries, keys and values. -/
module

public import proofs.«01_k».proof.Proof.Gen.KernelIdeal.Frame
public import proofs.«01_k».proof.Proof.AttnLoad
public import Idealize.ShloMosaic.Lib.Pipeline.Value
public import Idealize.ShloMosaic.Lib.Pipeline.ValueKit
public import Idealize.ShloMosaic.Lib.WordCmp

@[expose] public section

set_option maxRecDepth 16384
noncomputable section

namespace Cert.KernelIdeal.Mix

open Cert.KernelIdeal Cert.KernelIdeal.Gen Idealize.ShloMosaic Idealize.ShloMosaic.TcCoe Idealize.SL.Sem Cert.Mix

theorem causal : IsCausal (k0_pay22 (iota .tc S128x128 32 [1] iota_S128x128_d1_w32) (iota .tc S128x128 32 [0] iota_S128x128_d0_w32)) := by
  intro r j
  have h : k0_pay22 (iota .tc S128x128 32 [1] iota_S128x128_d1_w32) (iota .tc S128x128 32 [0] iota_S128x128_d0_w32) (ix2 r j)
      = IntOp.cmpi .sle (BitVec.ofNat 32 j.val) (BitVec.ofNat 32 r.val) := by
    pointwise [k0_pay22]
  rw [h, WordCmp.cmpi_sle_ofNat (by omega) (by omega)]
  by_cases hj : j.val ≤ r.val <;> simp [hj]

variable (m : (ℓ : Loc nD τ sig) → Buf (Elt Ideal) ℓ)

/-- The scale of the second map. -/
abbrev lamK (x0 x1 x2 x3 : Vec Ideal S1x128 .f32) : FVec Ideal S1x1 .f32 := k0_pay20 x0 x1 x2 x3

theorem outE (c : Dev nD) (t : Fin cfg0.N) (h0 : ¬t.val % 16 = 0) (h1 : ¬t.val % 16 = 1) (h2 : ¬t.val % 16 = 2) (h3 : ¬t.val % 16 = 3) (h4 : 4 ≤ t.val % 16)
    (h8 : AllReal (s := SQ) (iblk m c 8 t)) (h9 : AllReal (s := SQ) (iblk m c 9 t)) :
    (outsAt0 m c t.val t.isLt).1 = attnBlk (k0_pay21 (iblk m c 4 t)) (lamK (iblk m c 0 t) (iblk m c 1 t) (iblk m c 2 t) (iblk m c 3 t)) (iblk m c 8 t) (iblk m c 9 t) (iblk m c 10 t) := by
  rw [outsAt0_E m c t h0 h1 h2 h3 h4]
  dsimp only
  unfold out0_E_14
  rw [View.read_writes_eq_canon _ _ _ (cover0_E_14 c _ _ _ _ _ _ _ _ _ _ _ _ _ _ _ _ _ _ _ _ _ _ _ _ _ _ _ _ _ _ _ _ _ _ _ _ _ _ _ _ _ _ _ _ _ _ _ _ _ _ _ _)]
  funext y
  refine View.canon_apply_of_pieces _ _ ?_ y (cover0_E_14 c _ _ _ _ _ _ _ _ _ _ _ _ _ _ _ _ _ _ _ _ _ _ _ _ _ _ _ _ _ _ _ _ _ _ _ _ _ _ _ _ _ _ _ _ _ _ _ _ _ _ _ _ y)
  unfold kernelRun0_E
  dsimp only
  sl_unfold_words
  simp only [View.readAt_eq_ld, (hs0_0 t).read_unread, (hs0_1 t).read_unread, (hs0_2 t).read_unread, (hs0_3 t).read_unread, (hs0_4 t).read_unread, (hs0_8 t).read_unread, (hs0_9 t).read_unread, (hs0_10 t).read_unread]
  generalize iblk m c 8 t = x8 at h8 ⊢
  generalize iblk m c 9 t = x9 at h9 ⊢
  generalize iblk m c 10 t = x10
  generalize iblk m c 0 t = x0
  generalize iblk m c 1 t = x1
  generalize iblk m c 2 t = x2
  generalize iblk m c 3 t = x3
  generalize iblk m c 4 t = x4
  rw [View.ld_unit_lit (S := S1x128) inb_S1x128_S1x128_0_0 x0 (by decide)]
  rw [View.ld_unit_lit (S := S1x128) inb_S1x128_S1x128_0_0 x1 (by decide)]
  rw [View.ld_unit_lit (S := S1x128) inb_S1x128_S1x128_0_0 x2 (by decide)]
  rw [View.ld_unit_lit (S := S1x128) inb_S1x128_S1x128_0_0 x3 (by decide)]
  rw [View.ld_unit_lit (S := S1x256) inb_S1x256_S1x256_0_0 x4 (by decide)]
  refine List.forall_mem_cons.mpr ⟨fun x => outB_mask (U := 1920) (T := 2048) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1792) (T := 1920) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1664) (T := 1792) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1536) (T := 1664) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1408) (T := 1536) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1280) (T := 1408) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1152) (T := 1280) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 1024) (T := 1152) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 896) (T := 1024) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 768) (T := 896) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 640) (T := 768) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 512) (T := 640) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 384) (T := 512) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 256) (T := 384) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_mask (U := 128) (T := 256) (by constructor <;> decide) (by constructor <;> decide) (by omega) (k0_pay21 x4) (lamK x0 x1 x2 x3) _ causal x8 x9 x10 h8 h9 (by decide) (by decide) (by decide) (by decide) (by decide) (by decide) x, ?_⟩
  refine List.forall_mem_cons.mpr ⟨fun x => outB_diag (by constructor <;> decide) (k0_pay21 x4) (lamK x0 x1 x2 x3) _ causal x8 x9 x10 h8 h9 (by decide) (by decide) (by decide) x, ?_⟩
  exact fun _ h => absurd h List.not_mem_nil

end Cert.KernelIdeal.Mix
end
-- ==== Proof.PoolBlock.lean ====
/- The kernel's pooling of one block of 2048 rows: doubling steps of rolled sums, the mean over the window, and the product with the
   group's weight. -/
module

public import Idealize.ShloMosaic.Lib.Pointwise
public import Idealize.ShloMosaic.Lib.WordCmp

@[expose] public section

noncomputable section

namespace Cert.Mix

open Idealize.ShloMosaic

abbrev PU : Shape := ⟨2, ![2048, 256]⟩
abbrev PW : Shape := ⟨2, ![256, 256]⟩
abbrev PW3 : Shape := ⟨3, ![1, 256, 256]⟩
abbrev PS : Shape := ⟨2, ![1, 256]⟩

theorem pu_iota : PU.Iotas .tc 32 [0] := by decide
theorem pu_rot : PU.Rotates 0 none := by decide
theorem pw_cast : PW3.ShapeCasts PW := by decide
theorem ps_cast : PS.ShapeCasts PS := by decide
theorem ps_bro : PS.Broadcasts PU := by decide
theorem pl16 : FTy.bf16.bits < FTy.f32.bits := by decide

/-- One doubling step: the block plus itself rolled down by `s` rows, the rows that wrap around left out. -/
def stepB (s : ℕ) (u : FVec Ideal PU .f32) : FVec Ideal PU .f32 :=
  addf u (select (cmpi .sge (iota .tc PU 32 [0] pu_iota) (broadcast PU (BitVec.ofNat 32 s)))
    (dynamicRotate 0 (BitVec.ofNat 32 s) none u pu_rot) (broadcast PU (Scalar.ofBits .f32 0x00000000#32)))

theorem stepB_apply (s : ℕ) (hs : s < 2048) (u : FVec Ideal PU .f32) (r : Fin 2048) (e : Fin 256) :
    stepB s u (ix2 r e) = u (ix2 r e) + if h : s ≤ r.val then u (ix2 ⟨r.val - s, by omega⟩ e) else 0 := by
  pointwise [stepB]
  rw [WordCmp.cmpi_sge_ofNat (by omega) (by omega)]
  refine congrArg (fun x : EReal => u (ix2 r e) + x) ?_
  by_cases h : s ≤ r.val
  · rw [dif_pos h]
    simp only [h, decide_true]
    show u _ = _
    refine congrArg (fun k => u (ix2 k e)) (Fin.ext ?_)
    show (r.val + 2048 - (BitVec.ofNat 32 s).toNat % 2048) % 2048 = r.val - s
    rw [BitVec.toNat_ofNat, Nat.mod_eq_of_lt (by omega : s < 2 ^ 32), Nat.mod_eq_of_lt hs]
    omega
  · rw [dif_neg h]
    simp only [h, decide_false]
    rfl

/-- The sum of the last `w` entries up to `r`. -/
def win (w : ℕ) (f : Fin 2048 → EReal) (r : Fin 2048) : EReal :=
  ∑ j with j.val ≤ r.val ∧ r.val < j.val + w, f j

theorem win_one (f : Fin 2048 → EReal) (r : Fin 2048) : win 1 f r = f r := by
  unfold win
  rw [Finset.sum_eq_single r]
  · intro b hb hne
    have h := (Finset.mem_filter.mp hb).2
    exact absurd (Fin.ext (by omega)) hne
  · intro h
    exact absurd (Finset.mem_filter.mpr ⟨Finset.mem_univ _, by omega, by omega⟩) h

/-- A window of `2 s` entries is the window of `s` entries and the one `s` before it. -/
theorem win_double (s : ℕ) (f : Fin 2048 → EReal) (r : Fin 2048) :
    win s f r + (if h : s ≤ r.val then win s f ⟨r.val - s, by omega⟩ else 0) = win (2 * s) f r := by
  unfold win
  have hz : (if h : s ≤ r.val then ∑ j with j.val ≤ (⟨r.val - s, by omega⟩ : Fin 2048).val ∧ (⟨r.val - s, by omega⟩ : Fin 2048).val < j.val + s, f j else 0)
      = ∑ j : Fin 2048 with j.val + s ≤ r.val ∧ r.val < j.val + 2 * s, f j := by
    split
    · refine Finset.sum_congr (Finset.filter_congr fun j _ => ?_) fun _ _ => rfl
      show (j.val ≤ r.val - s ∧ r.val - s < j.val + s) ↔ _
      omega
    · rw [Finset.filter_false_of_mem fun j _ => by omega]
      rfl
  rw [hz, ← Finset.sum_union]
  · refine Finset.sum_congr (Finset.ext fun j => ?_) fun _ _ => rfl
    simp only [Finset.mem_union, Finset.mem_filter, Finset.mem_univ, true_and]
    omega
  · refine Finset.disjoint_filter.mpr fun j _ h1 h2 => ?_
    omega

/-- A doubling step doubles the window. -/
theorem stepB_win (s : ℕ) (hs : s < 2048) (u v : FVec Ideal PU .f32) (h : ∀ r e, u (ix2 r e) = win s (fun j => v (ix2 j e)) r) (r : Fin 2048) (e : Fin 256) :
    stepB s u (ix2 r e) = win (2 * s) (fun j => v (ix2 j e)) r := by
  rw [stepB_apply s hs, ← win_double, h]
  refine congrArg (fun x : EReal => _ + x) ?_
  split
  · rw [h]
  · rfl

/-- A product with a mask is the sum over the window. -/
theorem win_mask (w : ℕ) (f g : Fin 2048 → EReal) (r : Fin 2048) (hg : ∀ j, g j = if j.val ≤ r.val ∧ r.val < j.val + w then 1 else 0) :
    ∑ j, f j * g j = win w f r := by
  unfold win
  rw [Finset.sum_filter]
  refine Finset.sum_congr rfl fun j _ => ?_
  rw [hg]
  split
  · exact mul_one _
  · exact mul_zero _

/-- The number of rows in the window of `w` that ends at row `r`. -/
def count (w : BitVec 32) (r : Fin 2048) : EReal :=
  FloatOps.sitofp (F := Ideal) .f32 (IntOp.minsi (IntOp.addi (BitVec.ofNat 32 r.val) 1#32) w)

/-- One row of a group's pooling: the mean over the window less the row, through the group's weight, times the scale. -/
def poolRow (w : ℕ) (n : BitVec 32) (u : Fin 2048 → Fin 256 → EReal) (m : Fin 256 → Fin 256 → EReal) (s : Fin 256 → EReal) (r : Fin 2048) (e : Fin 256) : EReal :=
  (∑ d, (Ideal.div (win w (fun j => u j d) r) (count n r) - u r d) * m d e) * s e

def pd : DotDims PU PW PU where
  lhsContracting := [1]
  rhsContracting := [0]
  lhsNonContracting := [0]
  rhsNonContracting := [1]
  lhsBatch := []
  rhsBatch := []
  wf := by decide

/-- The kernel's operations after the window sum `a`. -/
def tailB (n : BitVec 32) (u a : FVec Ideal PU .f32) (m : FVec Ideal PW3 .f32) (s : FVec Ideal PS .f32) : FVec Ideal PU .bf16 :=
  truncf .bf16 (mulf (matmul pd none (truncf .bf16 (subf (divf a (sitofp .f32 (minsi (addi (iota .tc PU 32 [0] pu_iota) (broadcast PU 1#32)) (broadcast PU n)))) u) pl16)
    (truncf .bf16 (shapeCast PW m pw_cast) pl16) (constant PU .f32 0x00000000#32)) (broadcastTo PU (shapeCast PS s ps_cast) ps_bro)) pl16

theorem tailB_apply (w : ℕ) (n : BitVec 32) (u a : FVec Ideal PU .f32) (m : FVec Ideal PW3 .f32) (s : FVec Ideal PS .f32)
    (h : ∀ r e, a (ix2 r e) = win w (fun j => u (ix2 j e)) r) (r : Fin 2048) (e : Fin 256) :
    tailB n u a m s (ix2 r e) = poolRow w n (fun j d => u (ix2 j d)) (fun d e => m (ix3 0 d e)) (fun e => s (ix2 0 e)) r e := by
  pointwise [tailB, poolRow, pd, count, h]

end Cert.Mix
-- ==== Proof.PoolOut.lean ====
/- What the pooling cases of the mixing call write, and the columns of the modulation that every case writes. -/
module

public import proofs.«01_k».proof.Proof.Gen.KernelIdeal.Frame
public import proofs.«01_k».proof.Proof.PoolBlock
public import Idealize.ShloMosaic.Lib.Pipeline.Value
public import Idealize.ShloMosaic.Lib.Pipeline.ValueKit

@[expose] public section

set_option maxRecDepth 16384
noncomputable section

namespace Cert.KernelIdeal.Mix

open Cert.KernelIdeal Cert.KernelIdeal.Gen Idealize.ShloMosaic Idealize.ShloMosaic.TcCoe Idealize.SL.Sem Cert.Mix

variable (m : (ℓ : Loc nD τ sig) → Buf (Elt Ideal) ℓ)

/-- A group's pooling of a whole block. -/
def poolBlk (w : ℕ) (n : BitVec 32) (g : Fin 4) (u : S2048x256.Idx → EReal) (p : S4x256x256.Idx → EReal) (s : S1x256.Idx → EReal) (y : S2048x256.Idx) : EReal :=
  poolRow w n (fun j d => u (ix2 j d)) (fun d e => p (ix3 g d e)) (fun e => s (ix2 0 e)) (y 0) (y 1)

/-- One column of the modulation of one batch row. -/
def adaRow (f w : Fin 4096 → EReal) (b : EReal) : EReal := ∑ k, f k * Ideal.logistic (f k) * w k + b

/-- A block of the modulation's columns. -/
def adaBlk (f : S8x4096.Idx → EReal) (w : S4096x256.Idx → EReal) (b : S1x256.Idx → EReal) (y : S8x256.Idx) : EReal :=
  adaRow (fun k => f (ix2 (y 0) k)) (fun k => w (ix2 k (y 1))) (b (ix2 0 (y 1)))

theorem ada_eq (f : Vec Ideal S8x4096 .f32) (w : Vec Ideal S4096x256 .f32) (b : Vec Ideal S1x256 .f32) : k0_pay6 f w b = adaBlk f w b := by
  funext y
  obtain ⟨r, e, rfl⟩ : ∃ (r : Fin 8) (e : Fin 256), y = ix2 r e := ⟨y 0, y 1, (ix2_eta y).symm⟩
  pointwise [k0_pay6, adaBlk, adaRow]

theorem whole8 (inb : ∀ a, (![0, 0] : Fin 2 → ℕ) a + S8x4096.size a ≤ S8x4096.size a) (x : Vec Ideal S8x4096 .f32) : View.ld (Val := Elt Ideal) (e' := .f32) x (Rect.unit ![0, 0] S8x4096.size inb) = x :=
  View.ld_unit_lit (S := S8x4096) inb x (by decide)

theorem whole4096 (inb : ∀ a, (![0, 0] : Fin 2 → ℕ) a + S4096x256.size a ≤ S4096x256.size a) (x : Vec Ideal S4096x256 .f32) : View.ld (Val := Elt Ideal) (e' := .f32) x (Rect.unit ![0, 0] S4096x256.size inb) = x :=
  View.ld_unit_lit (S := S4096x256) inb x (by decide)

theorem whole1 (inb : ∀ a, (![0, 0] : Fin 2 → ℕ) a + S1x256.size a ≤ S1x256.size a) (x : Vec Ideal S1x256 .f32) : View.ld (Val := Elt Ideal) (e' := .f32) x (Rect.unit ![0, 0] S1x256.size inb) = x :=
  View.ld_unit_lit (S := S1x256) inb x (by decide)

theorem whole2048 (inb : ∀ a, (![0, 0] : Fin 2 → ℕ) a + S2048x256.size a ≤ S2048x256.size a) (x : Vec Ideal S2048x256 .f32) : View.ld (Val := Elt Ideal) (e' := .f32) x (Rect.unit ![0, 0] S2048x256.size inb) = x :=
  View.ld_unit_lit (S := S2048x256) inb x (by decide)

theorem canon8 (inb : ∀ a, (![0, 0] : Fin 2 → ℕ) a + S8x256.size a ≤ S8x256.size a) (x : Vec Ideal S8x256 .f32) :
    View.canon (Val := Elt Ideal) [(⟨Rect.unit ![0, 0] S8x256.size inb, x⟩ : View.Piece (Elt Ideal) S8x256 .f32)] = x :=
  View.canon_unit_zero (by decide) inb x

theorem canon2048 (inb : ∀ a, (![0, 0] : Fin 2 → ℕ) a + S2048x256.size a ≤ S2048x256.size a) (x : Vec Ideal S2048x256 .bf16) :
    View.canon (Val := Elt Ideal) [(⟨Rect.unit ![0, 0] S2048x256.size inb, x⟩ : View.Piece (Elt Ideal) S2048x256 .bf16)] = x :=
  View.canon_unit_zero (by decide) inb x

/-- A group's slab of the weights. -/
theorem slab (g : ℕ) (hg : g < 4) (inb : ∀ a, (![g, 0, 0] : Fin 3 → ℕ) a + (![1, 256, 256] : Fin 3 → ℕ) a ≤ S4x256x256.size a) (x : Vec Ideal S4x256x256 .f32) (d e : Fin 256) :
    View.ld (Val := Elt Ideal) (e' := .f32) x (Rect.unit (s := S4x256x256) ![g, 0, 0] ![1, 256, 256] inb) (ix3 (0 : Fin 1) d e) = x (ix3 ⟨g, hg⟩ d e) :=
  View.ld_unit_apply_of (Val := Elt Ideal) (e := .f32) x ![g, 0, 0] ![1, 256, 256] inb (ix3 (0 : Fin 1) d e) (ix3 ⟨g, hg⟩ d e) fun i => match i with
    | ⟨0, _⟩ => rfl
    | ⟨1, _⟩ => (Nat.zero_add _).symm
    | ⟨2, _⟩ => (Nat.zero_add _).symm

/-- A pooling case's payload from its window sum. -/
theorem pool_eq (w : ℕ) (n : BitVec 32) (g : ℕ) (hg : g < 4) (inb : ∀ a, (![g, 0, 0] : Fin 3 → ℕ) a + (![1, 256, 256] : Fin 3 → ℕ) a ≤ S4x256x256.size a)
    (u a : Vec Ideal S2048x256 .f32) (p : Vec Ideal S4x256x256 .f32) (s : Vec Ideal S1x256 .f32) (h : ∀ r e, a (ix2 r e) = win w (fun j => u (ix2 j e)) r) :
    tailB n u a (View.ld (Val := Elt Ideal) (e' := .f32) p (Rect.unit (s := S4x256x256) ![g, 0, 0] ![1, 256, 256] inb)) s = poolBlk w n ⟨g, hg⟩ u p s := by
  funext y
  obtain ⟨r, e, rfl⟩ : ∃ (r : Fin 2048) (e : Fin 256), y = ix2 r e := ⟨y 0, y 1, (ix2_eta y).symm⟩
  refine (tailB_apply w n u a _ s h r e).trans ?_
  unfold poolBlk
  exact congrArg (fun q => poolRow w n _ q _ r e) (funext fun d => funext fun e => slab g hg inb p d e)

theorem poolA (c : Dev nD) (t : Fin cfg0.N) (h0 : t.val % 16 = 0) (h1 : ¬t.val % 16 = 1) (h2 : ¬t.val % 16 = 2) (h3 : ¬t.val % 16 = 3) (h4 : ¬4 ≤ t.val % 16) :
    (outsAt0 m c t.val t.isLt).1 = poolBlk 2 2#32 0 (iblk m c 5 t) (iblk m c 6 t) (iblk m c 7 t) := by
  rw [outsAt0_A m c t h0 h1 h2 h3 h4]
  dsimp only
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_5 t).read_unread, (hs0_6 t).read_unread, (hs0_7 t).read_unread]
  generalize iblk m c 5 t = x5
  generalize iblk m c 6 t = x6
  generalize iblk m c 7 t = x7
  refine (canon2048 inb_S2048x256_S2048x256_0_0 _).trans ?_
  rw [whole2048 inb_S2048x256_S2048x256_0_0 x5, whole1 inb_S1x256_S1x256_0_0 x7]
  exact pool_eq 2 2#32 0 (by omega) inb_S4x256x256_S1x256x256_0_0_0 x5 _ x6 x7 (fun r e => stepB_win 1 (by omega) _ _ (fun r e => (win_one (fun j => x5 (ix2 j e)) r).symm) r e)

theorem poolB (c : Dev nD) (t : Fin cfg0.N) (h0 : ¬t.val % 16 = 0) (h1 : t.val % 16 = 1) (h2 : ¬t.val % 16 = 2) (h3 : ¬t.val % 16 = 3) (h4 : ¬4 ≤ t.val % 16) :
    (outsAt0 m c t.val t.isLt).1 = poolBlk 4 4#32 1 (iblk m c 5 t) (iblk m c 6 t) (iblk m c 7 t) := by
  rw [outsAt0_B m c t h0 h1 h2 h3 h4]
  dsimp only
  unfold out0_B_14
  rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_5 t).read_unread, (hs0_6 t).read_unread, (hs0_7 t).read_unread]
  generalize iblk m c 5 t = x5
  generalize iblk m c 6 t = x6
  generalize iblk m c 7 t = x7
  refine (canon2048 inb_S2048x256_S2048x256_0_0 _).trans ?_
  rw [whole2048 inb_S2048x256_S2048x256_0_0 x5, whole1 inb_S1x256_S1x256_0_0 x7]
  exact pool_eq 4 4#32 1 (by omega) inb_S4x256x256_S1x256x256_1_0_0 x5 _ x6 x7 (fun r e => stepB_win 2 (by omega) _ _ (fun r e => stepB_win 1 (by omega) _ _ (fun r e => (win_one (fun j => x5 (ix2 j e)) r).symm) r e) r e)

theorem poolC (c : Dev nD) (t : Fin cfg0.N) (h0 : ¬t.val % 16 = 0) (h1 : ¬t.val % 16 = 1) (h2 : t.val % 16 = 2) (h3 : ¬t.val % 16 = 3) (h4 : ¬4 ≤ t.val % 16) :
    (outsAt0 m c t.val t.isLt).1 = poolBlk 8 8#32 2 (iblk m c 5 t) (iblk m c 6 t) (iblk m c 7 t) := by
  rw [outsAt0_C m c t h0 h1 h2 h3 h4]
  dsimp only
  unfold out0_C_14
  rw [View.read_writes_eq_canon _ _ _ (cover0_C_14 c _ _ _ _ _ _ _ _ _ _ _ _ _ _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, (hs0_5 t).read_unread, (hs0_6 t).read_unread, (hs0_7 t).read_unread]
  generalize iblk m c 5 t = x5
  generalize iblk m c 6 t = x6
  generalize iblk m c 7 t = x7
  refine (canon2048 inb_S2048x256_S2048x256_0_0 _).trans ?_
  rw [whole2048 inb_S2048x256_S2048x256_0_0 x5, whole1 inb_S1x256_S1x256_0_0 x7]
  exact pool_eq 8 8#32 2 (by omega) inb_S4x256x256_S1x256x256_2_0_0 x5 _ x6 x7 (fun r e => stepB_win 4 (by omega) _ _ (fun r e => stepB_win 2 (by omega) _ _ (fun r e => stepB_win 1 (by omega) _ _ (fun r e => (win_one (fun j => x5 (ix2 j e)) r).symm) r e) r e) r e)

theorem poolD (c : Dev nD) (t : Fin cfg0.N) (h0 : ¬t.val % 16 = 0) (h1 : ¬t.val % 16 = 1) (h2 : ¬t.val % 16 = 2) (h3 : t.val % 16 = 3) (h4 : ¬4 ≤ t.val % 16) :
    (outsAt0 m c t.val t.isLt).1 = poolBlk 16 16#32 3 (iblk m c 5 t) (iblk m c 6 t) (iblk m c 7 t) := by
  rw [outsAt0_D m c t h0 h1 h2 h3 h4]
  dsimp only
  unfold out0_D_14
  rw [View.read_writes_eq_canon _ _ _ (cover0_D_14 c _ _ _ _ _ _ _ _ _ _ _ _ _ _ _ _ _ _ _ _ _ _ _ _ _ _ _ _ _ _ _ _ _ _ _ _ _ _ _ _ _ _ _ _ _ _ _ _ _ _ _ _ )]
  unfold kernelRun0_D
  dsimp only
  sl_unfold_words
  simp only [View.readAt_eq_ld, (hs0_5 t).read_unread, (hs0_6 t).read_unread, (hs0_7 t).read_unread]
  generalize iblk m c 5 t = x5
  generalize iblk m c 6 t = x6
  generalize iblk m c 7 t = x7
  refine (canon2048 inb_S2048x256_S2048x256_0_0 _).trans ?_
  rw [whole2048 inb_S2048x256_S2048x256_0_0 x5, whole1 inb_S1x256_S1x256_0_0 x7]
  exact pool_eq 16 16#32 3 (by omega) inb_S4x256x256_S1x256x256_3_0_0 x5 _ x6 x7 (fun r e => stepB_win 8 (by omega) _ _ (fun r e => stepB_win 4 (by omega) _ _ (fun r e => stepB_win 2 (by omega) _ _ (fun r e => stepB_win 1 (by omega) _ _ (fun r e => (win_one (fun j => x5 (ix2 j e)) r).symm) r e) r e) r e) r e)

theorem adaA (c : Dev nD) (t : Fin cfg0.N) (h0 : t.val % 16 = 0) (h1 : ¬t.val % 16 = 1) (h2 : ¬t.val % 16 = 2) (h3 : ¬t.val % 16 = 3) (h4 : ¬4 ≤ t.val % 16) :
    (outsAt0 m c t.val t.isLt).2 = adaBlk (iblk m c 11 t) (iblk m c 12 t) (iblk m c 13 t) := by
  rw [outsAt0_A m c t h0 h1 h2 h3 h4]
  dsimp only
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, (hs0_11 t).read_unread, (hs0_12 t).read_unread, (hs0_13 t).read_unread]
  generalize iblk m c 11 t = x11
  generalize iblk m c 12 t = x12
  generalize iblk m c 13 t = x13
  refine (canon8 inb_S8x256_S8x256_0_0 _).trans ?_
  rw [whole8 inb_S8x4096_S8x4096_0_0 x11, whole4096 inb_S4096x256_S4096x256_0_0 x12, whole1 inb_S1x256_S1x256_0_0 x13]
  exact ada_eq x11 x12 x13

theorem adaB (c : Dev nD) (t : Fin cfg0.N) (h0 : ¬t.val % 16 = 0) (h1 : t.val % 16 = 1) (h2 : ¬t.val % 16 = 2) (h3 : ¬t.val % 16 = 3) (h4 : ¬4 ≤ t.val % 16) :
    (outsAt0 m c t.val t.isLt).2 = adaBlk (iblk m c 11 t) (iblk m c 12 t) (iblk m c 13 t) := by
  rw [outsAt0_B m c t h0 h1 h2 h3 h4]
  dsimp only
  unfold out0_B_15
  rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _ _ _ _ _ )]
  unfold kernelRun0_B
  dsimp only
  sl_unfold_words
  simp only [View.readAt_eq_ld, (hs0_11 t).read_unread, (hs0_12 t).read_unread, (hs0_13 t).read_unread]
  generalize iblk m c 11 t = x11
  generalize iblk m c 12 t = x12
  generalize iblk m c 13 t = x13
  refine (canon8 inb_S8x256_S8x256_0_0 _).trans ?_
  rw [whole8 inb_S8x4096_S8x4096_0_0 x11, whole4096 inb_S4096x256_S4096x256_0_0 x12, whole1 inb_S1x256_S1x256_0_0 x13]
  exact ada_eq x11 x12 x13

theorem adaC (c : Dev nD) (t : Fin cfg0.N) (h0 : ¬t.val % 16 = 0) (h1 : ¬t.val % 16 = 1) (h2 : t.val % 16 = 2) (h3 : ¬t.val % 16 = 3) (h4 : ¬4 ≤ t.val % 16) :
    (outsAt0 m c t.val t.isLt).2 = adaBlk (iblk m c 11 t) (iblk m c 12 t) (iblk m c 13 t) := by
  rw [outsAt0_C m c t h0 h1 h2 h3 h4]
  dsimp only
  unfold out0_C_15
  rw [View.read_writes_eq_canon _ _ _ (cover0_C_15 c _ _ _ _ _ _ _ _ _ _ _ _ _ _ _ _ _ _ _ _ _ _ _ _ _ _ _ _ _ _ _ _ _ _ _ _ _ _ _ _ _ _ _ _ _ _ _ _ _ _ _ _ )]
  unfold kernelRun0_C
  dsimp only
  sl_unfold_words
  simp only [View.readAt_eq_ld, (hs0_11 t).read_unread, (hs0_12 t).read_unread, (hs0_13 t).read_unread]
  generalize iblk m c 11 t = x11
  generalize iblk m c 12 t = x12
  generalize iblk m c 13 t = x13
  refine (canon8 inb_S8x256_S8x256_0_0 _).trans ?_
  rw [whole8 inb_S8x4096_S8x4096_0_0 x11, whole4096 inb_S4096x256_S4096x256_0_0 x12, whole1 inb_S1x256_S1x256_0_0 x13]
  exact ada_eq x11 x12 x13

theorem adaD (c : Dev nD) (t : Fin cfg0.N) (h0 : ¬t.val % 16 = 0) (h1 : ¬t.val % 16 = 1) (h2 : ¬t.val % 16 = 2) (h3 : t.val % 16 = 3) (h4 : ¬4 ≤ t.val % 16) :
    (outsAt0 m c t.val t.isLt).2 = adaBlk (iblk m c 11 t) (iblk m c 12 t) (iblk m c 13 t) := by
  rw [outsAt0_D m c t h0 h1 h2 h3 h4]
  dsimp only
  unfold out0_D_15
  rw [View.read_writes_eq_canon _ _ _ (cover0_D_15 c _ _ _ _ _ _ _ _ _ _ _ _ _ _ _ _ _ _ _ _ _ _ _ _ _ _ _ _ _ _ _ _ _ _ _ _ _ _ _ _ _ _ _ _ _ _ _ _ _ _ _ _ )]
  unfold kernelRun0_D
  dsimp only
  sl_unfold_words
  simp only [View.readAt_eq_ld, (hs0_11 t).read_unread, (hs0_12 t).read_unread, (hs0_13 t).read_unread]
  generalize iblk m c 11 t = x11
  generalize iblk m c 12 t = x12
  generalize iblk m c 13 t = x13
  refine (canon8 inb_S8x256_S8x256_0_0 _).trans ?_
  rw [whole8 inb_S8x4096_S8x4096_0_0 x11, whole4096 inb_S4096x256_S4096x256_0_0 x12, whole1 inb_S1x256_S1x256_0_0 x13]
  exact ada_eq x11 x12 x13

theorem adaE (c : Dev nD) (t : Fin cfg0.N) (h0 : ¬t.val % 16 = 0) (h1 : ¬t.val % 16 = 1) (h2 : ¬t.val % 16 = 2) (h3 : ¬t.val % 16 = 3) (h4 : 4 ≤ t.val % 16) :
    (outsAt0 m c t.val t.isLt).2 = adaBlk (iblk m c 11 t) (iblk m c 12 t) (iblk m c 13 t) := by
  rw [outsAt0_E m c t h0 h1 h2 h3 h4]
  dsimp only
  unfold out0_E_15
  rw [View.read_writes_eq_canon _ _ _ (cover0_E_15 c _ _ _ _ _ _ _ _ _ _ _ _ _ _ _ _ _ _ _ _ _ _ _ _ _ _ _ _ _ _ _ _ _ _ _ _ _ _ _ _ _ _ _ _ _ _ _ _ _ _ _ _ )]
  unfold kernelRun0_E
  dsimp only
  sl_unfold_words
  simp only [View.readAt_eq_ld, (hs0_11 t).read_unread, (hs0_12 t).read_unread, (hs0_13 t).read_unread]
  generalize iblk m c 11 t = x11
  generalize iblk m c 12 t = x12
  generalize iblk m c 13 t = x13
  refine (canon8 inb_S8x256_S8x256_0_0 _).trans ?_
  rw [whole8 inb_S8x4096_S8x4096_0_0 x11, whole4096 inb_S4096x256_S4096x256_0_0 x12, whole1 inb_S1x256_S1x256_0_0 x13]
  exact ada_eq x11 x12 x13

end Cert.KernelIdeal.Mix
end
-- ==== Proof.Host.lean ====
/- The arrays that the mixing call's host line prepares, at an index. -/
module

public import proofs.«01_k».proof.Proof.Gen.KernelIdeal.Frame
public import Idealize.ShloMosaic.Lib.Pipeline.ValueKit
public import Idealize.ShloMosaic.Lib.KernelVsHost

@[expose] public section

set_option maxRecDepth 16384
noncomputable section

namespace Cert.KernelIdeal.Mix

open Cert.KernelIdeal Cert.KernelIdeal.Gen Idealize.ShloMosaic Idealize.ShloMosaic.TcCoe Idealize.SL.Sem

variable (m : (ℓ : Loc nD τ sig) → Buf (Elt Ideal) ℓ)

/-- The arrays before the launch: the host line's operations, one after the other. -/
theorem V_ops (c : Dev nD) (b) : V m c b = StableHlo.after (hostOps0 ++ (hostOps0_1 ++ hostOps0_2)) (fun b => m (c, b)) b := by
  unfold V
  simp only [List.flatten_cons, List.flatten_nil, List.append_nil]

theorem V11 (c : Dev nD) (d : Fin 128) : V m c main_v11 (ix2 0 d) = m ((c : Thread nD τ).loc main_arg4) (ix2 0 d) := by
  rw [V_ops]
  simp only [hostOps0, hostOps0_1, hostOps0_2, List.cons_append, List.nil_append]
  after_results
  pointwise

theorem V12 (c : Dev nD) (d : Fin 128) : V m c main_v12 (ix2 0 d) = m ((c : Thread nD τ).loc main_arg5) (ix2 0 d) := by
  rw [V_ops]
  simp only [hostOps0, hostOps0_1, hostOps0_2, List.cons_append, List.nil_append]
  after_results
  pointwise

theorem V13 (c : Dev nD) (d : Fin 128) : V m c main_v13 (ix2 0 d) = m ((c : Thread nD τ).loc main_arg6) (ix2 0 d) := by
  rw [V_ops]
  simp only [hostOps0, hostOps0_1, hostOps0_2, List.cons_append, List.nil_append]
  after_results
  pointwise

theorem V14 (c : Dev nD) (d : Fin 128) : V m c main_v14 (ix2 0 d) = m ((c : Thread nD τ).loc main_arg7) (ix2 0 d) := by
  rw [V_ops]
  simp only [hostOps0, hostOps0_1, hostOps0_2, List.cons_append, List.nil_append]
  after_results
  pointwise

theorem V15 (c : Dev nD) (d : Fin 256) : V m c main_v15 (ix2 0 d) = m ((c : Thread nD τ).loc main_arg8) (ix2 0 d) := by
  rw [V_ops]
  simp only [hostOps0, hostOps0_1, hostOps0_2, List.cons_append, List.nil_append]
  after_results
  pointwise

theorem V16 (c : Dev nD) (d : Fin 1024) : V m c main_v16 (ix2 0 d) = m ((c : Thread nD τ).loc main_arg3) (ix2 0 d) := by
  rw [V_ops]
  simp only [hostOps0, hostOps0_1, hostOps0_2, List.cons_append, List.nil_append]
  after_results
  pointwise

theorem V2 (c : Dev nD) (d : Fin 36864) : V m c main_v2 (ix2 0 d) = m ((c : Thread nD τ).loc main_arg11) (ix2 0 d) := by
  rw [V_ops]
  simp only [hostOps0, hostOps0_1, hostOps0_2, List.cons_append, List.nil_append]
  after_results
  pointwise

theorem V10 (c : Dev nD) (d : Fin 4096) (e : Fin 36864) : V m c main_v10 (ix2 d e) = m ((c : Thread nD τ).loc main_arg10) (ix3 0 d e) := by
  rw [V_ops]
  simp only [hostOps0, hostOps0_1, hostOps0_2, List.cons_append, List.nil_append]
  after_results
  pointwise

theorem V3 (c : Dev nD) (g : Fin 4) (d e : Fin 256) : V m c main_v3 (ix3 g d e) = m ((c : Thread nD τ).loc main_arg2) (ix4 0 g d e) := by
  rw [V_ops]
  simp only [hostOps0, hostOps0_1, hostOps0_2, List.cons_append, List.nil_append]
  after_results
  pointwise

/-- The padded batch rows: the first four are the argument's. -/
theorem V0_low (c : Dev nD) (g : Fin 4) (d : Fin 4096) : V m c main_v0 (ix2 ⟨g.val, by omega⟩ d) = m ((c : Thread nD τ).loc main_arg9) (ix2 g d) := by
  rw [V_ops]
  simp only [hostOps0, hostOps0_1, hostOps0_2, List.cons_append, List.nil_append]
  after_results
  refine pad_apply_of_inside (s := S4x4096) (t := S8x4096) ![0, 0] ![4, 0] ![0, 0] (m ((c : Thread nD τ).loc main_arg9)) (sitofp (F := Ideal) FTy.f32 (constantI S_ 32 0#32)) pads_S4x4096_S8x4096_040_000 h_S_ (ix2 ⟨g.val, by omega⟩ d) (ix2 g d) fun a => ?_
  match a with
  | ⟨0, _⟩ => show g.val = 0 + g.val * 1; omega
  | ⟨1, _⟩ => show d.val = 0 + d.val * 1; omega

/-- The other four are zero. -/
theorem V0_high (c : Dev nD) (g : Fin 8) (hg : 4 ≤ g.val) (d : Fin 4096) : V m c main_v0 (ix2 g d) = (0 : EReal) := by
  rw [V_ops]
  simp only [hostOps0, hostOps0_1, hostOps0_2, List.cons_append, List.nil_append]
  after_results
  refine (pad_apply_of_not_inside (s := S4x4096) (t := S8x4096) ![0, 0] ![4, 0] ![0, 0] (m ((c : Thread nD τ).loc main_arg9)) (sitofp (F := Ideal) FTy.f32 (constantI S_ 32 0#32)) pads_S4x4096_S8x4096_040_000 h_S_ (ix2 g d) ⟨0, by decide⟩ fun h => ?_).trans ?_
  · have h2 := h.2.2
    change (g.val - 0) / 1 < 4 at h2
    omega
  · pointwise
    show (((0#32 : BitVec 32).toInt : ℝ) : EReal) = 0
    simp

end Cert.KernelIdeal.Mix
end
-- ==== Proof.Blocks.lean ====
/- The mixing call's blocks: which elements of the arrays each grid point reads and writes. -/
module

public import proofs.«01_k».proof.Proof.AttnOut
public import proofs.«01_k».proof.Proof.PoolOut
public import proofs.«01_k».proof.Proof.Host
public import proofs.«01_k».proof.Proof.Gen.KernelIdeal.Value
public import Idealize.ShloMosaic.Lib.Pipeline.ValueKit

@[expose] public section

set_option maxRecDepth 16384
noncomputable section

namespace Cert.KernelIdeal.Mix

open Cert.KernelIdeal Cert.KernelIdeal.Gen Idealize.ShloMosaic Idealize.ShloMosaic.TcCoe Idealize.SL.Sem Cert.Mix

variable (m : (ℓ : Loc nD τ sig) → Buf (Elt Ideal) ℓ)

/-- The grid point of batch `b` and column block `g`. -/
def pt (b : Fin 4) (g : Fin 16) : Fin cfg0.N := ⟨16 * b.val + g.val, by show _ < 64; omega⟩

/-- The array row of a batch's row. -/
abbrev row (b : Fin 4) (r : Fin 2048) : Fin 8192 := ⟨2048 * b.val + r.val, by omega⟩

theorem idx_const : ∀ t : Fin cfg0.N, win0_0.index t = ![0, 0] ∧ win0_1.index t = ![0, 0] ∧ win0_2.index t = ![0, 0] ∧ win0_3.index t = ![0, 0] ∧ win0_4.index t = ![0, 0]
    ∧ win0_6.index t = ![0, 0, 0] ∧ win0_11.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0]
    ∧ win0_6.index t = ![0, 0, 0] ∧ win0_11.index t = ![0, 0])

theorem idx_pool : ∀ t : Fin cfg0.N, win0_5.index t = ![t.val / 16, min (t.val % 16) 3] ∧ win0_7.index t = ![0, min (t.val % 16) 3] :=
  (by decide +kernel : ∀ t : Fin grid0.N, win0_5.index t = ![t.val / 16, min (t.val % 16) 3] ∧ win0_7.index t = ![0, min (t.val % 16) 3])

theorem idx_attn : ∀ t : Fin cfg0.N, win0_8.index t = ![t.val / 16, t.val % 16 - 4] ∧ win0_9.index t = ![t.val / 16, 12 + (t.val % 16 - 4)] ∧ win0_10.index t = ![t.val / 16, 24 + (t.val % 16 - 4)] :=
  (by decide +kernel : ∀ t : Fin grid0.N, win0_8.index t = ![t.val / 16, t.val % 16 - 4] ∧ win0_9.index t = ![t.val / 16, 12 + (t.val % 16 - 4)] ∧ win0_10.index t = ![t.val / 16, 24 + (t.val % 16 - 4)])

theorem idx_ada : ∀ t : Fin cfg0.N, win0_12.index t = ![0, 80 + t.val] ∧ win0_13.index t = ![0, 80 + t.val] ∧ win0_15.index t = ![0, t.val] :=
  (by decide +kernel : ∀ t : Fin grid0.N, win0_12.index t = ![0, 80 + t.val] ∧ win0_13.index t = ![0, 80 + t.val] ∧ win0_15.index t = ![0, t.val])

theorem idx_out : ∀ t : Fin cfg0.N, win0_14.index t = ![t.val / 16, t.val % 16] :=
  (by decide +kernel : ∀ t : Fin grid0.N, win0_14.index t = ![t.val / 16, t.val % 16])

/-! ### The blocks read -/

theorem blk5 (c : Dev nD) (b : Fin 4) (g : Fin 16) (hg : g.val < 4) (j : Fin 2048) (d : Fin 256) :
    iblk m c 5 (pt b g) (ix2 j d) = m ((c : Thread nD τ).loc main_arg0) (ix2 (row b j) ⟨256 * g.val + d.val, by omega⟩) := by
  have hi := (idx_pool (pt b g)).1
  have hv : (pt b g).val = 16 * b.val + g.val := rfl
  blk_ext [iblk, V_main_arg0, hi, hv]

theorem blk8 (c : Dev nD) (b : Fin 4) (g : Fin 16) (hg : 4 ≤ g.val) (j : Fin 2048) (d : Fin 256) :
    iblk m c 8 (pt b g) (ix2 j d) = m ((c : Thread nD τ).loc main_arg1) (ix2 (row b j) ⟨256 * (g.val - 4) + d.val, by omega⟩) := by
  have hi := (idx_attn (pt b g)).1
  have hv : (pt b g).val = 16 * b.val + g.val := rfl
  blk_ext [iblk, V_main_arg1, hi, hv]

theorem blk9 (c : Dev nD) (b : Fin 4) (g : Fin 16) (hg : 4 ≤ g.val) (j : Fin 2048) (d : Fin 256) :
    iblk m c 9 (pt b g) (ix2 j d) = m ((c : Thread nD τ).loc main_arg1) (ix2 (row b j) ⟨3072 + 256 * (g.val - 4) + d.val, by omega⟩) := by
  have hi := (idx_attn (pt b g)).2.1
  have hv : (pt b g).val = 16 * b.val + g.val := rfl
  blk_ext [iblk, V_main_arg1, hi, hv]

theorem blk10 (c : Dev nD) (b : Fin 4) (g : Fin 16) (hg : 4 ≤ g.val) (j : Fin 2048) (d : Fin 256) :
    iblk m c 10 (pt b g) (ix2 j d) = m ((c : Thread nD τ).loc main_arg1) (ix2 (row b j) ⟨6144 + 256 * (g.val - 4) + d.val, by omega⟩) := by
  have hi := (idx_attn (pt b g)).2.2
  have hv : (pt b g).val = 16 * b.val + g.val := rfl
  blk_ext [iblk, V_main_arg1, hi, hv]

/-- A one-row operand is the whole array at every grid point. -/
theorem blk0 (c : Dev nD) (t : Fin cfg0.N) (d : Fin 128) : iblk m c 0 t (ix2 0 d) = m ((c : Thread nD τ).loc main_arg4) (ix2 0 d) := by
  have hi := (idx_const t).1
  have h : iblk m c 0 t (ix2 0 d) = V m c main_v11 (ix2 0 d) := by blk_ext [iblk, hi]
  exact h.trans (V11 m c d)

theorem blk1 (c : Dev nD) (t : Fin cfg0.N) (d : Fin 128) : iblk m c 1 t (ix2 0 d) = m ((c : Thread nD τ).loc main_arg5) (ix2 0 d) := by
  have hi := (idx_const t).2.1
  have h : iblk m c 1 t (ix2 0 d) = V m c main_v12 (ix2 0 d) := by blk_ext [iblk, hi]
  exact h.trans (V12 m c d)

theorem blk2 (c : Dev nD) (t : Fin cfg0.N) (d : Fin 128) : iblk m c 2 t (ix2 0 d) = m ((c : Thread nD τ).loc main_arg6) (ix2 0 d) := by
  have hi := (idx_const t).2.2.1
  have h : iblk m c 2 t (ix2 0 d) = V m c main_v13 (ix2 0 d) := by blk_ext [iblk, hi]
  exact h.trans (V13 m c d)

theorem blk3 (c : Dev nD) (t : Fin cfg0.N) (d : Fin 128) : iblk m c 3 t (ix2 0 d) = m ((c : Thread nD τ).loc main_arg7) (ix2 0 d) := by
  have hi := (idx_const t).2.2.2.1
  have h : iblk m c 3 t (ix2 0 d) = V m c main_v14 (ix2 0 d) := by blk_ext [iblk, hi]
  exact h.trans (V14 m c d)

theorem blk4 (c : Dev nD) (t : Fin cfg0.N) (d : Fin 256) : iblk m c 4 t (ix2 0 d) = m ((c : Thread nD τ).loc main_arg8) (ix2 0 d) := by
  have hi := (idx_const t).2.2.2.2.1
  have h : iblk m c 4 t (ix2 0 d) = V m c main_v15 (ix2 0 d) := by blk_ext [iblk, hi]
  exact h.trans (V15 m c d)

theorem blk6 (c : Dev nD) (t : Fin cfg0.N) (g : Fin 4) (d e : Fin 256) : iblk m c 6 t (ix3 g d e) = m ((c : Thread nD τ).loc main_arg2) (ix4 0 g d e) := by
  have hi := (idx_const t).2.2.2.2.2.1
  have h : iblk m c 6 t (ix3 g d e) = V m c main_v3 (ix3 g d e) := by blk_ext [iblk, hi]
  exact h.trans (V3 m c g d e)

theorem blk7 (c : Dev nD) (b : Fin 4) (g : Fin 16) (hg : g.val < 4) (d : Fin 256) :
    iblk m c 7 (pt b g) (ix2 0 d) = m ((c : Thread nD τ).loc main_arg3) (ix2 0 ⟨256 * g.val + d.val, by omega⟩) := by
  have hi := (idx_pool (pt b g)).2
  have hv : (pt b g).val = 16 * b.val + g.val := rfl
  have h : iblk m c 7 (pt b g) (ix2 0 d) = V m c main_v16 (ix2 0 ⟨256 * g.val + d.val, by omega⟩) := by blk_ext [iblk, hi, hv]
  exact h.trans (V16 m c _)

theorem blk11 (c : Dev nD) (t : Fin cfg0.N) (g : Fin 8) (d : Fin 4096) : iblk m c 11 t (ix2 g d) = V m c main_v0 (ix2 g d) := by
  have hi := (idx_const t).2.2.2.2.2.2
  blk_ext [iblk, hi]

theorem blk12 (c : Dev nD) (t : Fin 64) (d : Fin 4096) (e : Fin 256) :
    iblk m c 12 t (ix2 d e) = m ((c : Thread nD τ).loc main_arg10) (ix3 0 d ⟨20480 + 256 * t.val + e.val, by omega⟩) := by
  have hi := (idx_ada t).1
  have h : iblk m c 12 t (ix2 d e) = V m c main_v10 (ix2 d ⟨20480 + 256 * t.val + e.val, by omega⟩) := by blk_ext [iblk, hi]
  exact h.trans (V10 m c d _)

theorem blk13 (c : Dev nD) (t : Fin 64) (e : Fin 256) :
    iblk m c 13 t (ix2 0 e) = m ((c : Thread nD τ).loc main_arg11) (ix2 0 ⟨20480 + 256 * t.val + e.val, by omega⟩) := by
  have hi := (idx_ada t).2.1
  have h : iblk m c 13 t (ix2 0 e) = V m c main_v2 (ix2 0 ⟨20480 + 256 * t.val + e.val, by omega⟩) := by blk_ext [iblk, hi]
  exact h.trans (V2 m c _)

/-! ### The blocks written -/

/-- An element of the mixing's array after the run is what its batch's and its column block's grid point leaves there. -/
theorem out14 (c : Dev nD) (b : Fin 4) (g : Fin 16) (r : Fin 2048) (e : Fin 256) :
    (dats m 0 c).arrAt 14 cfg0.N (ix2 (row b r) ⟨256 * g.val + e.val, by omega⟩) = (outsAt0 m c (pt b g).val (pt b g).isLt).1 (ix2 r e) := by
  have hi := idx_out (pt b g)
  have hv : (pt b g).val = 16 * b.val + g.val := rfl
  have h := congrFun (Value.blocks14 m c (pt b g) ((by decide +kernel : ∀ t : Fin grid0.N, win0_14.flush t = true) _)) (ix2 r e)
  rw [Value.flushed14] at h
  have hc : (cfg0.win 14).cut (grid0.coords (pt b g)) (outsAt0 m c (pt b g).val (pt b g).isLt).1 (ix2 r e) = (outsAt0 m c (pt b g).val (pt b g).isLt).1 (ix2 r e) := rfl
  rw [← hc, ← h]
  symm
  blk_ext [hi, hv]

/-- An element of the modulation's array after the run is what its column block's grid point leaves there. -/
theorem out15 (c : Dev nD) (t : Fin cfg0.N) (ht : t.val < 64) (g : Fin 8) (e : Fin 256) :
    (dats m 0 c).arrAt 15 cfg0.N (ix2 g ⟨256 * t.val + e.val, by omega⟩) = (outsAt0 m c t.val t.isLt).2 (ix2 g e) := by
  have hi := (idx_ada t).2.2
  have h := congrFun (Value.blocks15 m c t ((by decide +kernel : ∀ t : Fin grid0.N, win0_15.flush t = true) _)) (ix2 g e)
  rw [Value.flushed15] at h
  have hc : (cfg0.win 15).cut (grid0.coords t) (outsAt0 m c t.val t.isLt).2 (ix2 g e) = (outsAt0 m c t.val t.isLt).2 (ix2 g e) := rfl
  rw [← hc, ← h]
  symm
  blk_ext [hi]

end Cert.KernelIdeal.Mix
end
-- ==== Proof.RefPool.lean ====
/- The reference's pooling at an index: the banded product is the sum over the window, and the rest is one row of the
   pooling. Each of the four groups is the same text at another window. -/
module

public import proofs.«01_k».proof.Proof.Gen.ReferenceIdeal.Read
public import proofs.«01_k».proof.Proof.PoolBlock
public import Idealize.ShloMosaic.Lib.WordCmp
public import Idealize.ShloMosaic.Lib.Pipeline.ValueKit

@[expose] public section

set_option maxRecDepth 16384
noncomputable section

namespace Cert.ReferenceIdeal.Mix

open Cert.ReferenceIdeal Cert.ReferenceIdeal.Gen Cert.ReferenceIdeal.Read Idealize.ShloMosaic Idealize.ShloMosaic.TcCoe Idealize.SL.Sem Cert.Mix

/-- The band of zeros and ones of a window of `w`. -/
def maskOf (w : BitVec 32) : FVec Ideal S2048x2048 .f32 :=
  select (andi (cmpi .sle (val_main_v22 (F := Ideal)) (val_main_v21 (F := Ideal)))
      (cmpi .sgt (val_main_v22 (F := Ideal)) (subi (val_main_v21 (F := Ideal)) (broadcastInDim S2048x2048 ![] bcast_S_S2048x2048 (constantI S_ 32 w)))))
    (broadcastInDim S2048x2048 ![] bcast_S_S2048x2048 (constant (F := Ideal) S_ .f32 0x3F800000#32))
    (broadcastInDim S2048x2048 ![] bcast_S_S2048x2048 (constant (F := Ideal) S_ .f32 0x00000000#32))

/-- A group's counts, one for every row. -/
def countOf (w : BitVec 32) : FVec Ideal S4x2048x256 .f32 :=
  broadcastInDim S4x2048x256 ![0, 1, 2] bcast_S1x2048x1_S4x2048x256_0_1_2 (broadcastInDim S1x2048x1 ![1, 2] bcast_S2048x1_S1x2048x1_1_2
    (sitofp (F := Ideal) .f32 (minsi (addi (val_main_v23 (F := Ideal)) (broadcastInDim S2048x1 ![] bcast_S_S2048x1 (constantI S_ 32 1#32))) (broadcastInDim S2048x1 ![] bcast_S_S2048x1 (constantI S_ 32 w)))))

/-- A group's pooling, from its columns and its weight. -/
def poolOf (w : BitVec 32) (u : FVec Ideal S4x2048x256 .f32) (p : FVec Ideal S256x256 .f32) : FVec Ideal S4x2048x256 .f32 :=
  Host.dotGeneral dot_S4x2048x256_S256x256_S4x2048x256_2_0_01_1_n_n none
    (subf (Host.divf (transpose S4x2048x256 [0, 2, 1] (Host.dotGeneral dot_S4x2048x256_S2048x2048_S4x256x2048_1_1_02_0_n_n none u (maskOf w)) transposes_S4x256x2048_S4x2048x256_0_2_1) (countOf w)) u) p

theorem v49_eq (x0 : (⟨S8192x1024, .f32⟩ : BufTy).Contents (Elt Ideal)) (x2 : (⟨S1x4x256x256, .f32⟩ : BufTy).Contents (Elt Ideal)) : val_main_v49 x0 x2 = poolOf 2#32 (val_main_v33 x0) (val_main_v48 x2) := rfl
theorem v74_eq (x0 : (⟨S8192x1024, .f32⟩ : BufTy).Contents (Elt Ideal)) (x2 : (⟨S1x4x256x256, .f32⟩ : BufTy).Contents (Elt Ideal)) : val_main_v74 x0 x2 = poolOf 4#32 (val_main_v58 x0) (val_main_v73 x2) := rfl
theorem v99_eq (x0 : (⟨S8192x1024, .f32⟩ : BufTy).Contents (Elt Ideal)) (x2 : (⟨S1x4x256x256, .f32⟩ : BufTy).Contents (Elt Ideal)) : val_main_v99 x0 x2 = poolOf 8#32 (val_main_v83 x0) (val_main_v98 x2) := rfl
theorem v124_eq (x0 : (⟨S8192x1024, .f32⟩ : BufTy).Contents (Elt Ideal)) (x2 : (⟨S1x4x256x256, .f32⟩ : BufTy).Contents (Elt Ideal)) : val_main_v124 x0 x2 = poolOf 16#32 (val_main_v108 x0) (val_main_v123 x2) := rfl

/-- Whether a later row less a window lies before an earlier one, in signed words. -/
theorem sgt_word (w : ℕ) (hw : w ≤ 16) (r j : Fin 2048) :
    IntOp.cmpi .sgt (BitVec.ofNat 32 j.val) (IntOp.subi (BitVec.ofNat 32 r.val) (BitVec.ofNat 32 w)) = BitVec.ofBool (decide (r.val < j.val + w)) := by
  show BitVec.ofBool (BitVec.slt _ _) = _
  refine congrArg _ ?_
  rw [BitVec.slt_eq_decide]
  refine decide_eq_decide.mpr ?_
  show (BitVec.ofNat 32 r.val - BitVec.ofNat 32 w).toInt < (BitVec.ofNat 32 j.val).toInt ↔ _
  have hi : ∀ n : ℕ, n < 4096 → (BitVec.ofNat 32 n).toInt = (n : ℤ) := fun n hn => by
    rw [BitVec.toInt_eq_toNat_bmod, BitVec.toNat_ofNat, Int.bmod_def]; omega
  rw [BitVec.toInt_sub, hi r.val (by omega), hi w (by omega), hi j.val (by omega)]
  have h4 : ((r.val : ℤ) - w).bmod (2 ^ 32) = (r.val : ℤ) - w := by rw [Int.bmod_def]; omega
  rw [h4]
  omega

theorem maskOf_at (w : ℕ) (hw : w ≤ 16) (r j : Fin 2048) :
    maskOf (BitVec.ofNat 32 w) (ix2 r j) = if j.val ≤ r.val ∧ r.val < j.val + w then 1 else 0 := by
  have h1 : maskOf (BitVec.ofNat 32 w) (ix2 r j) = Scalar.select (IntOp.andi (IntOp.cmpi .sle (BitVec.ofNat 32 j.val) (BitVec.ofNat 32 r.val))
      (IntOp.cmpi .sgt (BitVec.ofNat 32 j.val) (IntOp.subi (BitVec.ofNat 32 r.val) (BitVec.ofNat 32 w)))) (1 : EReal) 0 := by
    unfold maskOf val_main_v22 val_main_v21
    pointwise
  rw [h1, sgt_word w hw, WordCmp.cmpi_sle_ofNat (by omega) (by omega)]
  by_cases ha : j.val ≤ r.val <;> by_cases hb : r.val < j.val + w <;> simp only [ha, hb, and_self, and_true, and_false, false_and, true_and, if_true, if_false, decide_true, decide_false] <;> rfl

theorem countOf_at (w : BitVec 32) (b : Fin 4) (r : Fin 2048) (d : Fin 256) : countOf w (ix3 b r d) = Mix.count w r := by
  unfold countOf Mix.count val_main_v23
  pointwise

theorem poolOf_at (w : ℕ) (hw : w ≤ 16) (u : FVec Ideal S4x2048x256 .f32) (p : FVec Ideal S256x256 .f32) (b : Fin 4) (r : Fin 2048) (e : Fin 256) :
    poolOf (BitVec.ofNat 32 w) u p (ix3 b r e) = ∑ d : Fin 256, (Ideal.div (win w (fun j => u (ix3 b j d)) r) (Mix.count (BitVec.ofNat 32 w) r) - u (ix3 b r d)) * p (ix2 d e) := by
  have hm : ∀ d : Fin 256, win w (fun j => u (ix3 b j d)) r = ∑ j : Fin 2048, u (ix3 b j d) * maskOf (BitVec.ofNat 32 w) (ix2 r j) :=
    fun d => (win_mask w _ _ r fun j => maskOf_at w hw r j).symm
  simp only [hm]
  have hn := countOf_at (BitVec.ofNat 32 w) b r
  unfold poolOf
  generalize maskOf (BitVec.ofNat 32 w) = M
  generalize countOf (BitVec.ofNat 32 w) = N at hn
  pointwise
  simp only [hn]

abbrev XU := (⟨S8192x1024, .f32⟩ : BufTy).Contents (Elt Ideal)
abbrev XP := (⟨S1x4x256x256, .f32⟩ : BufTy).Contents (Elt Ideal)
abbrev XS := (⟨S1x1024, .f32⟩ : BufTy).Contents (Elt Ideal)

/-- One row of a group's pooling, of batch row `b`. -/
def groupRow (w : ℕ) (g : Fin 4) (x0 : XU) (x2 : XP) (x3 : XS) (b : Fin 4) (r : Fin 2048) (e : Fin 256) : EReal :=
  poolRow w (BitVec.ofNat 32 w) (fun j d => x0 (ix2 ⟨b.val * 2048 + j.val, by omega⟩ ⟨g.val * 256 + d.val, by omega⟩)) (fun d e => x2 (ix4 0 g d e)) (fun e => x3 (ix2 0 ⟨g.val * 256 + e.val, by omega⟩)) r e

theorem v49_at (x0 : XU) (x2 : XP) (x3 : XS) (b : Fin 4) (r : Fin 2048) (e : Fin 256) :
    val_main_v49 x0 x2 (ix3 b r e) * x3 (ix2 0 ⟨0 * 256 + e.val, by omega⟩) = groupRow 2 0 x0 x2 x3 b r e := by
  rw [v49_eq, poolOf_at 2 (by omega)]
  unfold groupRow poolRow val_main_v33 val_main_v32 val_main_v24 val_main_v48 val_main_v47 val_main_v19
  pointwise

theorem v74_at (x0 : XU) (x2 : XP) (x3 : XS) (b : Fin 4) (r : Fin 2048) (e : Fin 256) :
    val_main_v74 x0 x2 (ix3 b r e) * x3 (ix2 0 ⟨1 * 256 + e.val, by omega⟩) = groupRow 4 1 x0 x2 x3 b r e := by
  rw [v74_eq, poolOf_at 4 (by omega)]
  unfold groupRow poolRow val_main_v58 val_main_v57 val_main_v24 val_main_v73 val_main_v72 val_main_v19
  pointwise

theorem v99_at (x0 : XU) (x2 : XP) (x3 : XS) (b : Fin 4) (r : Fin 2048) (e : Fin 256) :
    val_main_v99 x0 x2 (ix3 b r e) * x3 (ix2 0 ⟨2 * 256 + e.val, by omega⟩) = groupRow 8 2 x0 x2 x3 b r e := by
  rw [v99_eq, poolOf_at 8 (by omega)]
  unfold groupRow poolRow val_main_v83 val_main_v82 val_main_v24 val_main_v98 val_main_v97 val_main_v19
  pointwise

theorem v124_at (x0 : XU) (x2 : XP) (x3 : XS) (b : Fin 4) (r : Fin 2048) (e : Fin 256) :
    val_main_v124 x0 x2 (ix3 b r e) * x3 (ix2 0 ⟨3 * 256 + e.val, by omega⟩) = groupRow 16 3 x0 x2 x3 b r e := by
  rw [v124_eq, poolOf_at 16 (by omega)]
  unfold groupRow poolRow val_main_v108 val_main_v107 val_main_v24 val_main_v123 val_main_v122 val_main_v19
  pointwise

/-- The window of a group. -/
def width (g : Fin 4) : ℕ := 2 ^ (g.val + 1)

/-- The pooled columns, group by group. -/
theorem v128_at (x0 : XU) (x2 : XP) (x3 : XS) (b : Fin 4) (r : Fin 2048) (g : Fin 4) (e : Fin 256) :
    val_main_v128 x0 x2 x3 (ix3 b r ⟨g.val * 256 + e.val, by omega⟩) = groupRow (width g) g x0 x2 x3 b r e := by
  have hs : val_main_v128 x0 x2 x3 (ix3 b r ⟨g.val * 256 + e.val, by omega⟩) = val_main_v125 x0 x2 (ix3 b r ⟨g.val * 256 + e.val, by omega⟩) * x3 (ix2 0 ⟨g.val * 256 + e.val, by omega⟩) := by
    unfold val_main_v128 val_main_v127 val_main_v126 val_main_v20
    generalize val_main_v125 x0 x2 = y
    pointwise
  have side : ∀ (c : Fin 1024) (k : Fin 3), k ≠ (2 : Fin 3) → (ix3 b r e k).val = (ix3 b r c k).val := fun c k hk => by
    match k with
    | ⟨0, _⟩ => rfl
    | ⟨1, _⟩ => rfl
    | ⟨2, _⟩ => exact absurd rfl hk
  rw [hs]
  unfold val_main_v125
  match g with
  | 0 =>
    exact (congrArg (· * _) (concatenate_apply_piece (t := S4x2048x1024) 2 _ _ _ 0 (by show 0 < 4; omega) S4x2048x256 (val_main_v49 x0 x2) rfl rfl 0 rfl (ix3 b r e) (fun k hk => side _ k hk) rfl)).trans (v49_at x0 x2 x3 b r e)
  | 1 =>
    exact (congrArg (· * _) (concatenate_apply_piece (t := S4x2048x1024) 2 _ _ _ 1 (by show 1 < 4; omega) S4x2048x256 (val_main_v74 x0 x2) rfl rfl 256 rfl (ix3 b r e) (fun k hk => side _ k hk) rfl)).trans (v74_at x0 x2 x3 b r e)
  | 2 =>
    exact (congrArg (· * _) (concatenate_apply_piece (t := S4x2048x1024) 2 _ _ _ 2 (by show 2 < 4; omega) S4x2048x256 (val_main_v99 x0 x2) rfl rfl 512 rfl (ix3 b r e) (fun k hk => side _ k hk) rfl)).trans (v99_at x0 x2 x3 b r e)
  | 3 =>
    exact (congrArg (· * _) (concatenate_apply_piece (t := S4x2048x1024) 2 _ _ _ 3 (by show 3 < 4; omega) S4x2048x256 (val_main_v124 x0 x2) rfl rfl 768 rfl (ix3 b r e) (fun k hk => side _ k hk) rfl)).trans (v124_at x0 x2 x3 b r e)

end Cert.ReferenceIdeal.Mix
end
-- ==== Proof.RefAttn.lean ====
/- The reference's attention at an index: the softmax of each masked row, the difference of the two maps, the product
   with the values and the normalization. -/
module

public import proofs.«01_k».proof.Proof.Gen.ReferenceIdeal.Read
public import proofs.«01_k».proof.Proof.AttnRow
public import Idealize.ShloMosaic.Lib.WordCmp
public import Idealize.ShloMosaic.Lib.Pipeline.ValueKit

@[expose] public section

set_option maxRecDepth 16384
noncomputable section

namespace Cert.ReferenceIdeal.Mix

open Cert.ReferenceIdeal Cert.ReferenceIdeal.Gen Cert.ReferenceIdeal.Read Idealize.ShloMosaic Idealize.ShloMosaic.TcCoe Idealize.SL.Sem Cert.Mix

/-- The projections' array and the one-row operands. -/
abbrev XA := (⟨S8192x9216, .bf16⟩ : BufTy).Contents (Elt Ideal)
@[inherit_doc XA] abbrev XL := (⟨S1x128, .f32⟩ : BufTy).Contents (Elt Ideal)

/-- One head's columns of one batch's rows, from column `o` on. -/
def headOf (o : ℕ) (ho : o + 3072 ≤ 9216) (x1 : XA) (b : Fin 4) (h : Fin 12) (y : SQ.Idx) : EReal :=
  x1 (ix2 ⟨b.val * 2048 + (y 0).val, by have : (y 0).val < 2048 := (y 0).isLt; omega⟩ ⟨o + (h.val * 256 + (y 1).val), by have : (y 1).val < 256 := (y 1).isLt; omega⟩)

theorem v2_at (x1 : XA) (b : Fin 4) (r : Fin 2048) (h : Fin 12) (s : Fin 2) (d : Fin 128) :
    val_main_v2 x1 (ix5 b r h s d) = headOf 0 (by omega) x1 b h (ix2 r ⟨128 * s.val + d.val, by omega⟩) := by
  unfold val_main_v2 val_main_v1 val_main_v0 headOf
  pointwise
  exact congrArg x1 (congrArg (ix2 _) (Fin.ext (by show h.val * 256 + s.val * 128 + d.val = h.val * 256 + (128 * s.val + d.val); omega)))

theorem v4_at (x1 : XA) (b : Fin 4) (r : Fin 2048) (h : Fin 12) (s : Fin 2) (d : Fin 128) :
    val_main_v4 x1 (ix5 b r h s d) = headOf 3072 (by omega) x1 b h (ix2 r ⟨128 * s.val + d.val, by omega⟩) := by
  unfold val_main_v4 val_main_v3 val_main_v0 headOf
  pointwise
  exact congrArg x1 (congrArg (ix2 _) (Fin.ext (by show 3072 + (h.val * 256 + s.val * 128 + d.val) = 3072 + (h.val * 256 + (128 * s.val + d.val)); omega)))

theorem v6_at (x1 : XA) (b : Fin 4) (r : Fin 2048) (h : Fin 12) (d : Fin 256) :
    val_main_v6 x1 (ix4 b r h d) = headOf 6144 (by omega) x1 b h (ix2 r d) := by
  unfold val_main_v6 val_main_v5 val_main_v0 headOf
  pointwise

theorem v130_at (x1 : XA) (b : Fin 4) (r : Fin 2048) (h : Fin 12) (s : Fin 2) (j : Fin 2048) :
    val_main_v130 x1 (ix5 b h s r j) = ∑ d : Fin 128, val_main_v2 x1 (ix5 b r h s d) * val_main_v4 x1 (ix5 b j h s d) := by
  rw [val_main_v130_apply]
  refine Finset.sum_congr rfl fun d _ => congrArg₂ (fun a b : EReal => a * b) (congrArg _ ?_) (congrArg _ ?_)
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl

/-- A masked row of scores of the reference. -/
abbrev sc (x1 : XA) (b : Fin 4) (h : Fin 12) (s : Fin 2) (r : Fin 2048) : Fin 2048 → EReal :=
  refScore (headOf 0 (by omega) x1 b h) (headOf 3072 (by omega) x1 b h) (128 * s.val) (by omega) r

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem v137_at (x1 : XA) (b : Fin 4) (r : Fin 2048) (h : Fin 12) (s : Fin 2) (j : Fin 2048) :
    val_main_v137 x1 (ix5 b h s r j) = sc x1 b h s r j * ((Real.log 2 : ℝ) : EReal) := by
  have h1 : val_main_v137 x1 (ix5 b h s r j) = Scalar.select (IntOp.cmpi CmpIPredicate.sle (BitVec.ofNat 32 j.val) (BitVec.ofNat 32 r.val))
      (val_main_v130 x1 (ix5 b h s r j) * Ideal.log (Ideal.ofBits FTy.f32 0x40000000#32)) (Ideal.ofBits FTy.f32 0xFF800000#32) := by
    unfold val_main_v137 val_main_v133 val_main_v132 val_main_v131 val_main_cst_21 val_main_call4_v1 val_main_call4_v2 val_main_call4_v0 val_main_v136 val_main_v135 val_main_v134 val_main_cst_22
    pointwise
    rfl
  rw [h1, log_two, v130_at, WordCmp.cmpi_sle_ofNat (by omega) (by omega)]
  unfold sc refScore
  by_cases hj : j.val ≤ r.val
  · rw [if_pos hj]
    simp only [hj, decide_true]
    show (∑ d : Fin 128, _) * _ = _
    simp only [v2_at, v4_at]
  · rw [if_neg hj]
    simp only [hj, decide_false]
    show (⊥ : EReal) = _
    exact (EReal.bot_mul_coe_of_pos log2_pos).symm

theorem v138_at (x1 : XA) (b : Fin 4) (r : Fin 2048) (h : Fin 12) (s : Fin 2)  :
    val_main_v138 x1 (ix4 b h s r) = Finset.univ.sup fun j => sc x1 b h s r j * ((Real.log 2 : ℝ) : EReal) := by
  have h1 : val_main_v138 x1 (ix4 b h s r) = Finset.fold max (Ideal.ofBits FTy.f32 0xFF800000#32) (fun x => val_main_v137 x1 (ix5 b h s r x)) Finset.univ := by
    unfold val_main_v138 val_main_cst_23
    pointwise
  rw [h1]
  simp only [v137_at]
  rfl

theorem idx_v142 (b : Fin 4) (r : Fin 2048) (h : Fin 12) (s : Fin 2) (j : Fin 2048) : idx_main_v141 (idx_main_v142 (ix5 b h s r j)) = ix4 b h s r := by
  funext a; match a with | ⟨0, _⟩ => rfl | ⟨1, _⟩ => rfl | ⟨2, _⟩ => rfl | ⟨3, _⟩ => rfl

theorem idx_v147 (b : Fin 4) (r : Fin 2048) (h : Fin 12) (s : Fin 2) (j : Fin 2048) : idx_main_v146 (idx_main_v147 (ix5 b h s r j)) = ix4 b h s r := by
  funext a; match a with | ⟨0, _⟩ => rfl | ⟨1, _⟩ => rfl | ⟨2, _⟩ => rfl | ⟨3, _⟩ => rfl

theorem v144_at (x1 : XA) (b : Fin 4) (r : Fin 2048) (h : Fin 12) (s : Fin 2) (j : Fin 2048) :
    val_main_v144 x1 (ix5 b h s r j) = we (sc x1 b h s r) j := by
  rw [val_main_v144_apply, val_main_v143_apply, val_main_v142_apply, val_main_v141_apply, idx_v142, val_main_v140_apply, val_main_v139_apply, v137_at, v138_at,
    val_main_cst_24_apply]
  unfold we
  show Ideal.exp (_ - max (⊥ : EReal) _) = _
  rw [max_eq_right bot_le]

theorem v145_at (x1 : XA) (b : Fin 4) (r : Fin 2048) (h : Fin 12) (s : Fin 2)  :
    val_main_v145 x1 (ix4 b h s r) = ∑ j : Fin 2048, we (sc x1 b h s r) j := by
  rw [val_main_v145_apply, val_main_cst_25_apply]
  have h0 : (FloatOps.ofBits (F := Ideal) .f32 0x00000000#32 : EReal) = 0 := by show Ideal.ofBits .f32 _ = 0; simp
  refine (congrArg (fun x : EReal => x + _) h0).trans ((zero_add _).trans (Finset.sum_congr rfl fun j _ => ?_))
  rw [← v144_at]
  refine congrArg _ ?_
  funext a; match a with | ⟨0, _⟩ => rfl | ⟨1, _⟩ => rfl | ⟨2, _⟩ => rfl | ⟨3, _⟩ => rfl | ⟨4, _⟩ => rfl

/-- The two attention maps' weights. -/
theorem v148_at (x1 : XA) (b : Fin 4) (r : Fin 2048) (h : Fin 12) (s : Fin 2) (j : Fin 2048) :
    val_main_v148 x1 (ix5 b h s r j) = Ideal.div (we (sc x1 b h s r) j) (∑ k, we (sc x1 b h s r) k) := by
  rw [val_main_v148_apply, val_main_v147_apply, val_main_v146_apply, idx_v147, v144_at, v145_at]
  rfl

theorem flat4 (b h r j : ℕ) (hb : b < 4) (hh : h < 12) (hr : r < 2048) (hj : j < 2048) :
    (((b * 12 + h) * 2048 + r) * 2048 + j) / 50331648 = b ∧ (((b * 12 + h) * 2048 + r) * 2048 + j) / 4194304 % 12 = h
    ∧ (((b * 12 + h) * 2048 + r) * 2048 + j) / 2048 % 2048 = r ∧ (((b * 12 + h) * 2048 + r) * 2048 + j) % 2048 = j := by
  refine ⟨?_, ?_, ?_, ?_⟩ <;> omega

theorem idx_v150 (b : Fin 4) (r : Fin 2048) (h : Fin 12) (j : Fin 2048) : idx_main_v149 (idx_main_v150 (ix4 b h r j)) = ix5 b h 0 r j := by
  have hf := flat4 b.val h.val r.val j.val b.isLt h.isLt r.isLt j.isLt
  funext a
  match a with
  | ⟨0, _⟩ => exact Fin.ext hf.1
  | ⟨1, _⟩ => exact Fin.ext hf.2.1
  | ⟨2, _⟩ => rfl
  | ⟨3, _⟩ => exact Fin.ext hf.2.2.1
  | ⟨4, _⟩ => exact Fin.ext hf.2.2.2

theorem idx_v152 (b : Fin 4) (r : Fin 2048) (h : Fin 12) (j : Fin 2048) : idx_main_v151 (idx_main_v152 (ix4 b h r j)) = ix5 b h 1 r j := by
  have hf := flat4 b.val h.val r.val j.val b.isLt h.isLt r.isLt j.isLt
  funext a
  match a with
  | ⟨0, _⟩ => exact Fin.ext hf.1
  | ⟨1, _⟩ => exact Fin.ext hf.2.1
  | ⟨2, _⟩ => rfl
  | ⟨3, _⟩ => exact Fin.ext hf.2.2.1
  | ⟨4, _⟩ => exact Fin.ext hf.2.2.2

theorem v155_at (x1 : XA) (x4 x5 x6 x7 : XL) (b : Fin 4) (r : Fin 2048) (h : Fin 12) (j : Fin 2048) :
    val_main_v155 x1 x4 x5 x6 x7 (ix4 b h r j) = Ideal.div (we (sc x1 b h 0 r) j) (∑ k, we (sc x1 b h 0 r) k)
      - val_main_v18 x4 x5 x6 x7 ix0 * Ideal.div (we (sc x1 b h 1 r) j) (∑ k, we (sc x1 b h 1 r) k) := by
  have e : idx_main_v153 (ix4 b h r j) = ix0 := funext fun a => a.elim0
  rw [val_main_v155_apply, val_main_v154_apply, val_main_v153_apply, e, val_main_v152_apply, val_main_v151_apply, val_main_v150_apply, val_main_v149_apply,
    idx_v150, idx_v152, v148_at, v148_at]
  rfl

theorem v156_at (x1 : XA) (x4 x5 x6 x7 : XL) (b : Fin 4) (r : Fin 2048) (h : Fin 12) (e : Fin 256) :
    val_main_v156 x1 x4 x5 x6 x7 (ix4 b h e r) = rOut (sc x1 b h 0 r) (sc x1 b h 1 r) (val_main_v18 x4 x5 x6 x7 ix0) fun j => headOf 6144 (by omega) x1 b h (ix2 j e) := by
  rw [val_main_v156_apply]
  unfold rOut
  refine Finset.sum_congr rfl fun j _ => congrArg₂ (fun a b : EReal => a * b) ?_ ?_
  · refine Eq.trans ?_ (v6_at x1 b j h e)
    refine congrArg _ ?_
    funext a; match a with | ⟨0, _⟩ => rfl | ⟨1, _⟩ => rfl | ⟨2, _⟩ => rfl | ⟨3, _⟩ => rfl
  · rw [← v155_at]
    refine congrArg _ ?_
    funext a; match a with | ⟨0, _⟩ => rfl | ⟨1, _⟩ => rfl | ⟨2, _⟩ => rfl | ⟨3, _⟩ => rfl

theorem idx_v157 (b : Fin 4) (r : Fin 2048) (h : Fin 12) (e : Fin 256) : idx_main_v157 (ix4 b r h e) = ix4 b h e r := by
  funext a; match a with | ⟨0, _⟩ => rfl | ⟨1, _⟩ => rfl | ⟨2, _⟩ => rfl | ⟨3, _⟩ => rfl

theorem v159_at (x1 : XA) (x4 x5 x6 x7 : XL) (b : Fin 4) (r : Fin 2048) (h : Fin 12) :
    val_main_v159 x1 x4 x5 x6 x7 (ix3 b r h) = ∑ e : Fin 256, val_main_v156 x1 x4 x5 x6 x7 (ix4 b h e r) * val_main_v156 x1 x4 x5 x6 x7 (ix4 b h e r) := by
  rw [val_main_v159_apply, val_main_cst_26_apply]
  have h0 : (FloatOps.ofBits (F := Ideal) .f32 0x00000000#32 : EReal) = 0 := by show Ideal.ofBits .f32 _ = 0; simp
  refine (congrArg (fun x : EReal => x + _) h0).trans ((zero_add _).trans (Finset.sum_congr rfl fun e _ => ?_))
  have hi : idx_main_v159 (ix3 b r h) e = ix4 b r h e := by
    funext a; match a with | ⟨0, _⟩ => rfl | ⟨1, _⟩ => rfl | ⟨2, _⟩ => rfl | ⟨3, _⟩ => rfl
  rw [hi, val_main_v158_apply, val_main_v157_apply, idx_v157]
  rfl

/-- One element of the reference's attention. -/
theorem v172_at (x1 : XA) (x4 x5 x6 x7 : XL) (x8 : (⟨S1x256, .f32⟩ : BufTy).Contents (Elt Ideal)) (b : Fin 4) (r : Fin 2048) (h : Fin 12) (e : Fin 256) :
    val_main_v172 x1 x4 x5 x6 x7 x8 (ix4 b r h e) = refAttn (fun e => x8 (ix2 0 e)) (val_main_v18 x4 x5 x6 x7 ix0)
      (headOf 0 (by omega) x1 b h) (headOf 3072 (by omega) x1 b h) (headOf 6144 (by omega) x1 b h) r e := by
  have h1 : val_main_v172 x1 x4 x5 x6 x7 x8 (ix4 b r h e) = val_main_v156 x1 x4 x5 x6 x7 (ix4 b h e r) *
          Ideal.rsqrt (Ideal.div (val_main_v159 x1 x4 x5 x6 x7 (ix3 b r h)) (Ideal.ofBits FTy.f32 0x43800000#32) + Ideal.ofBits FTy.f32 0x358637BD#32) *
        x8 (ix2 0 e) * Ideal.ofBits FTy.f32 0x3F4CCCCD#32 := by
    unfold val_main_v172 val_main_v171 val_main_v170 val_main_v169 val_main_v168 val_main_v167 val_main_v166 val_main_v165 val_main_v164 val_main_v163 val_main_v162 val_main_v161 val_main_v160 val_main_v157 val_main_v129 val_main_cst_29 val_main_cst_28 val_main_cst_27
    pointwise
  rw [h1, v159_at]
  unfold refAttn normRow
  simp only [v156_at]
  rfl

/-- A sum over the indices of a vector is the sum over its positions. -/
theorem sum_ix1 {n : ℕ} (f : Fin n → EReal) : ∑ x : (⟨1, ![n]⟩ : Shape).Idx, f (x 0) = ∑ d, f d :=
  Fintype.sum_equiv ⟨fun x => x 0, fun d => ix1 d, fun x => by funext a; match a with | ⟨0, _⟩ => rfl, fun d => rfl⟩ _ _ fun _ => rfl

/-- The coefficient of the second map. -/
theorem v18_at (x4 x5 x6 x7 : XL) :
    val_main_v18 x4 x5 x6 x7 ix0 = Ideal.exp (∑ d : Fin 128, x4 (ix2 0 d) * x5 (ix2 0 d)) - Ideal.exp (∑ d : Fin 128, x6 (ix2 0 d) * x7 (ix2 0 d))
      + Ideal.ofBits FTy.f32 0x3E4CCCCD#32 := by
  unfold val_main_v18 val_main_v17 val_main_v16 val_main_v11 val_main_cst_1
  pointwise
  rw [val_main_v10_apply, val_main_v15_apply]
  unfold val_main_v14 val_main_v9 val_main_v13 val_main_v12 val_main_v8 val_main_v7 val_main_cst val_main_cst_0
  pointwise
  exact congrArg₂ (fun a b : EReal => Ideal.exp a - Ideal.exp b + Ideal.ofBits FTy.f32 0x3E4CCCCD#32) (sum_ix1 fun d => x4 (ix2 0 d) * x5 (ix2 0 d)) (sum_ix1 fun d => x6 (ix2 0 d) * x7 (ix2 0 d))

end Cert.ReferenceIdeal.Mix
end
-- ==== Proof.RefOut.lean ====
/- The reference's two results at an index: which columns are pooled, which attend, and the modulation's rows. -/
module

public import proofs.«01_k».proof.Proof.RefPool
public import proofs.«01_k».proof.Proof.RefAttn
public import Idealize.ShloMosaic.Lib.KernelVsHost

@[expose] public section

set_option maxRecDepth 16384
noncomputable section

namespace Cert.ReferenceIdeal.Mix

open Cert.ReferenceIdeal Cert.ReferenceIdeal.Gen Cert.ReferenceIdeal.Read Idealize.ShloMosaic Idealize.ShloMosaic.TcCoe Idealize.SL.Sem Cert.Mix

abbrev XC := (⟨S4x4096, .f32⟩ : BufTy).Contents (Elt Ideal)
abbrev XW := (⟨S1x4096x36864, .f32⟩ : BufTy).Contents (Elt Ideal)
abbrev XB := (⟨S1x36864, .f32⟩ : BufTy).Contents (Elt Ideal)

theorem v186_at (x0 : XU) (x1 : XA) (x2 : XP) (x3 : XS) (x4 x5 x6 x7 : XL) (x8 : (⟨S1x256, .f32⟩ : BufTy).Contents (Elt Ideal)) (b : Fin 4) (r : Fin 2048) (c : Fin 4096) :
    val_main_v186 x0 x1 x2 x3 x4 x5 x6 x7 x8 (ix2 ⟨b.val * 2048 + r.val, by omega⟩ c) = val_main_v174 x0 x1 x2 x3 x4 x5 x6 x7 x8 (ix3 b r c) := by
  unfold val_main_v186 val_main_v175
  generalize val_main_v174 x0 x1 x2 x3 x4 x5 x6 x7 x8 = y
  pointwise

theorem side_axis {n m : ℕ} (b : Fin 4) (r : Fin 2048) (e : Fin n) (c : Fin m) (k : Fin 3) (hk : k ≠ (2 : Fin 3)) : (ix3 b r e k).val = (ix3 b r c k).val := by
  match k with
  | ⟨0, _⟩ => rfl
  | ⟨1, _⟩ => rfl
  | ⟨2, _⟩ => exact absurd rfl hk

/-- A pooled column. -/
theorem mix_pool (x0 : XU) (x1 : XA) (x2 : XP) (x3 : XS) (x4 x5 x6 x7 : XL) (x8 : (⟨S1x256, .f32⟩ : BufTy).Contents (Elt Ideal)) (b : Fin 4) (r : Fin 2048) (g : Fin 4) (e : Fin 256) :
    val_main_v186 x0 x1 x2 x3 x4 x5 x6 x7 x8 (ix2 ⟨b.val * 2048 + r.val, by omega⟩ ⟨g.val * 256 + e.val, by omega⟩) = groupRow (width g) g x0 x2 x3 b r e := by
  rw [v186_at, ← v128_at]
  unfold val_main_v174
  exact concatenate_pair_apply_left (t := S4x2048x4096) (s₁ := S4x2048x1024) (s₂ := S4x2048x3072) 2 _ _ _ _ rfl (ix3 b r ⟨g.val * 256 + e.val, by omega⟩) (fun k => by
    match k with
    | ⟨0, _⟩ => rfl
    | ⟨1, _⟩ => rfl
    | ⟨2, _⟩ => rfl)

/-- An attended column. -/
theorem mix_attn (x0 : XU) (x1 : XA) (x2 : XP) (x3 : XS) (x4 x5 x6 x7 : XL) (x8 : (⟨S1x256, .f32⟩ : BufTy).Contents (Elt Ideal)) (b : Fin 4) (r : Fin 2048) (h : Fin 12) (e : Fin 256) :
    val_main_v186 x0 x1 x2 x3 x4 x5 x6 x7 x8 (ix2 ⟨b.val * 2048 + r.val, by omega⟩ ⟨1024 + (h.val * 256 + e.val), by omega⟩) = val_main_v172 x1 x4 x5 x6 x7 x8 (ix4 b r h e) := by
  have h1 : val_main_v173 x1 x4 x5 x6 x7 x8 (ix3 b r ⟨h.val * 256 + e.val, by omega⟩) = val_main_v172 x1 x4 x5 x6 x7 x8 (ix4 b r h e) := by
    unfold val_main_v173
    generalize val_main_v172 x1 x4 x5 x6 x7 x8 = y
    pointwise
  rw [v186_at, ← h1]
  unfold val_main_v174
  exact concatenate_pair_apply_right (t := S4x2048x4096) (s₁ := S4x2048x1024) (s₂ := S4x2048x3072) 2 _ _ _ _ rfl rfl (ix3 b r ⟨h.val * 256 + e.val, by omega⟩) (fun k hk => side_axis b r _ _ k hk) (by show (h.val * 256 + e.val) + 1024 = 1024 + (h.val * 256 + e.val); omega)

theorem v184_at (x11 : XB) (g : Fin 8) (e : Fin 16384) : val_main_v184 x11 (ix2 g e) = x11 (ix2 0 ⟨20480 + e.val, by omega⟩) := by
  unfold val_main_v184 val_main_v183 val_main_v182 val_main_v181
  pointwise

theorem v179_at (x9 : XC) (x10 : XW) (g : Fin 4) (e : Fin 16384) :
    val_main_v179 x9 x10 (ix2 g e) = ∑ k : Fin 4096, x9 (ix2 g k) * Ideal.logistic (x9 (ix2 g k)) * x10 (ix3 0 k ⟨20480 + e.val, by omega⟩) := by
  unfold val_main_v179 val_main_v178 val_main_v177 val_main_v176 val_main_call5_v5 val_main_call5_v4 val_main_call5_v3 val_main_call5_v2 val_main_call5_v1 val_main_call5_v0 val_main_call5_cst val_main_call5_cst_0
  pointwise [Ideal.logistic]

/-- A batch row of the modulation. -/
theorem ada_low (x9 : XC) (x10 : XW) (x11 : XB) (g : Fin 4) (e : Fin 16384) :
    val_main_v185 x9 x10 x11 (ix2 ⟨g.val, by omega⟩ e) = ∑ k : Fin 4096, x9 (ix2 g k) * Ideal.logistic (x9 (ix2 g k)) * x10 (ix3 0 k ⟨20480 + e.val, by omega⟩) + x11 (ix2 0 ⟨20480 + e.val, by omega⟩) := by
  have h := v179_at x9 x10 g e
  have hp : val_main_v180 x9 x10 (ix2 ⟨g.val, by omega⟩ e) = val_main_v179 x9 x10 (ix2 g e) := by
    unfold val_main_v180
    refine pad_apply_of_inside (s := S4x16384) (t := S8x16384) ![0, 0] ![4, 0] ![0, 0] _ _ _ _ _ _ (fun k => ?_)
    match k with
    | ⟨0, _⟩ => show g.val = 0 + g.val * (0 + 1); omega
    | ⟨1, _⟩ => show e.val = 0 + e.val * (0 + 1); omega
  show val_main_v180 x9 x10 _ + val_main_v184 x11 _ = _
  rw [hp, h, v184_at]

/-- A row of the modulation beyond the batch. -/
theorem ada_high (x9 : XC) (x10 : XW) (x11 : XB) (g : Fin 8) (hg : 4 ≤ g.val) (e : Fin 16384) :
    val_main_v185 x9 x10 x11 (ix2 g e) = x11 (ix2 0 ⟨20480 + e.val, by omega⟩) := by
  have hp : val_main_v180 x9 x10 (ix2 g e) = 0 := by
    unfold val_main_v180
    rw [pad_apply_of_not_inside (s := S4x16384) (t := S8x16384) ![0, 0] ![4, 0] ![0, 0] _ _ _ _ (ix2 g e) 0 (fun hin => by
      have h3 : (g.val - 0) / (0 + 1) < 4 := hin.2.2
      omega)]
    show (((0#32 : BitVec 32).toInt : ℝ) : EReal) = 0
    simp
  show val_main_v180 x9 x10 _ + val_main_v184 x11 _ = _
  rw [hp, v184_at, zero_add]

end Cert.ReferenceIdeal.Mix
end
-- ==== Proof.Match.lean ====
/- The mixing call's two results, element by element, are the reference's. -/
module

public import proofs.«01_k».proof.Proof.Blocks
public import proofs.«01_k».proof.Proof.RefOut

@[expose] public section

set_option maxRecDepth 16384
noncomputable section

namespace Cert.KernelIdeal.Mix

open Cert.KernelIdeal Cert.KernelIdeal.Gen Idealize.ShloMosaic Idealize.ShloMosaic.TcCoe Idealize.SL.Sem Cert.Mix

variable (m : (ℓ : Loc nD τ sig) → Buf (Elt Ideal) ℓ)

/-- The row of a pooled block, as the reference writes it. -/
theorem pool_row (c : Dev nD) (b g : Fin 4) (r : Fin 2048) (e : Fin 256) (w : ℕ) :
    poolBlk w (BitVec.ofNat 32 w) g (iblk m c 5 (pt b ⟨g.val, by omega⟩)) (iblk m c 6 (pt b ⟨g.val, by omega⟩)) (iblk m c 7 (pt b ⟨g.val, by omega⟩)) (ix2 r e)
      = Cert.ReferenceIdeal.Mix.groupRow w g (m ((c : Thread nD τ).loc main_arg0)) (m ((c : Thread nD τ).loc main_arg2)) (m ((c : Thread nD τ).loc main_arg3)) b r e := by
  have hu : (fun (j : Fin 2048) (d : Fin 256) => iblk m c 5 (pt b ⟨g.val, by omega⟩) (ix2 j d)) = fun j d => m ((c : Thread nD τ).loc main_arg0) (ix2 ⟨b.val * 2048 + j.val, by omega⟩ ⟨g.val * 256 + d.val, by omega⟩) := by
    funext j d
    rw [blk5 m c b ⟨g.val, by omega⟩ g.isLt j d]
    exact congrArg _ (congrArg₂ ix2 (Fin.ext (by show 2048 * b.val + j.val = b.val * 2048 + j.val; omega)) (Fin.ext (by show 256 * g.val + d.val = g.val * 256 + d.val; omega)))
  have hp : (fun (d e : Fin 256) => iblk m c 6 (pt b ⟨g.val, by omega⟩) (ix3 g d e)) = fun d e => m ((c : Thread nD τ).loc main_arg2) (ix4 0 g d e) := by
    funext d e
    exact blk6 m c _ g d e
  have hs : (fun (e : Fin 256) => iblk m c 7 (pt b ⟨g.val, by omega⟩) (ix2 0 e)) = fun e => m ((c : Thread nD τ).loc main_arg3) (ix2 0 ⟨g.val * 256 + e.val, by omega⟩) := by
    funext e
    rw [blk7 m c b ⟨g.val, by omega⟩ g.isLt e]
    exact congrArg _ (congrArg₂ ix2 rfl (Fin.ext (by show 256 * g.val + e.val = g.val * 256 + e.val; omega)))
  unfold poolBlk Cert.ReferenceIdeal.Mix.groupRow
  rw [hu, hp, hs]
  rfl

theorem match_pool (c : Dev nD) (b g : Fin 4) (r : Fin 2048) (e : Fin 256) :
    (dats m 0 c).arrAt 14 cfg0.N (ix2 (row b r) ⟨256 * g.val + e.val, by omega⟩)
      = Cert.ReferenceIdeal.Mix.groupRow (Cert.ReferenceIdeal.Mix.width g) g (m ((c : Thread nD τ).loc main_arg0)) (m ((c : Thread nD τ).loc main_arg2)) (m ((c : Thread nD τ).loc main_arg3)) b r e := by
  rw [← pool_row]
  refine (out14 m c b ⟨g.val, by omega⟩ r e).trans ?_
  have hv : ∀ k : Fin 16, (pt b k).val % 16 = k.val := fun k => by show (16 * b.val + k.val) % 16 = k.val; omega
  match g with
  | 0 => exact congrFun (poolA m c (pt b 0) (by rw [hv]; decide) (by rw [hv]; decide) (by rw [hv]; decide) (by rw [hv]; decide) (by rw [hv]; decide)) (ix2 r e)
  | 1 => exact congrFun (poolB m c (pt b 1) (by rw [hv]; decide) (by rw [hv]; decide) (by rw [hv]; decide) (by rw [hv]; decide) (by rw [hv]; decide)) (ix2 r e)
  | 2 => exact congrFun (poolC m c (pt b 2) (by rw [hv]; decide) (by rw [hv]; decide) (by rw [hv]; decide) (by rw [hv]; decide) (by rw [hv]; decide)) (ix2 r e)
  | 3 => exact congrFun (poolD m c (pt b 3) (by rw [hv]; decide) (by rw [hv]; decide) (by rw [hv]; decide) (by rw [hv]; decide) (by rw [hv]; decide)) (ix2 r e)

theorem lamK_at (x0 x1 x2 x3 : S1x128.Idx → EReal) :
    lamK x0 x1 x2 x3 (ix2 0 0) = Ideal.exp (∑ d : Fin 128, x0 (ix2 0 d) * x1 (ix2 0 d)) - Ideal.exp (∑ d : Fin 128, x2 (ix2 0 d) * x3 (ix2 0 d)) + Ideal.ofBits FTy.f32 0x3E4CCCCD#32 := by
  unfold lamK
  pointwise [k0_pay20]

theorem pay21_at (x : S1x256.Idx → EReal) (e : Fin 256) : k0_pay21 (F := Ideal) x (ix2 0 e) = x (ix2 0 e) := by
  pointwise [k0_pay21]

/-- A head's block of queries, keys or values, as the reference reads it. -/
theorem head8 (c : Dev nD) (b : Fin 4) (h : Fin 12) :
    (iblk m c 8 (pt b ⟨h.val + 4, by omega⟩) : SQ.Idx → EReal) = Cert.ReferenceIdeal.Mix.headOf 0 (by omega) (m ((c : Thread nD τ).loc main_arg1)) b h := by
  funext y
  obtain ⟨i, j, rfl⟩ : ∃ (i : Fin 2048) (j : Fin 256), y = ix2 i j := ⟨y 0, y 1, by funext a; match a with | ⟨0, _⟩ => rfl | ⟨1, _⟩ => rfl⟩
  refine (blk8 m c b ⟨h.val + 4, by omega⟩ (by show 4 ≤ h.val + 4; omega) i j).trans ?_
  exact congrArg _ (congrArg₂ ix2 (Fin.ext (by show 2048 * b.val + i.val = b.val * 2048 + i.val; omega)) (Fin.ext (by show 256 * (h.val + 4 - 4) + j.val = 0 + (h.val * 256 + j.val); omega)))

theorem head9 (c : Dev nD) (b : Fin 4) (h : Fin 12) :
    (iblk m c 9 (pt b ⟨h.val + 4, by omega⟩) : SQ.Idx → EReal) = Cert.ReferenceIdeal.Mix.headOf 3072 (by omega) (m ((c : Thread nD τ).loc main_arg1)) b h := by
  funext y
  obtain ⟨i, j, rfl⟩ : ∃ (i : Fin 2048) (j : Fin 256), y = ix2 i j := ⟨y 0, y 1, by funext a; match a with | ⟨0, _⟩ => rfl | ⟨1, _⟩ => rfl⟩
  refine (blk9 m c b ⟨h.val + 4, by omega⟩ (by show 4 ≤ h.val + 4; omega) i j).trans ?_
  exact congrArg _ (congrArg₂ ix2 (Fin.ext (by show 2048 * b.val + i.val = b.val * 2048 + i.val; omega)) (Fin.ext (by show 3072 + 256 * (h.val + 4 - 4) + j.val = 3072 + (h.val * 256 + j.val); omega)))

theorem head10 (c : Dev nD) (b : Fin 4) (h : Fin 12) :
    (iblk m c 10 (pt b ⟨h.val + 4, by omega⟩) : SQ.Idx → EReal) = Cert.ReferenceIdeal.Mix.headOf 6144 (by omega) (m ((c : Thread nD τ).loc main_arg1)) b h := by
  funext y
  obtain ⟨i, j, rfl⟩ : ∃ (i : Fin 2048) (j : Fin 256), y = ix2 i j := ⟨y 0, y 1, by funext a; match a with | ⟨0, _⟩ => rfl | ⟨1, _⟩ => rfl⟩
  refine (blk10 m c b ⟨h.val + 4, by omega⟩ (by show 4 ≤ h.val + 4; omega) i j).trans ?_
  exact congrArg _ (congrArg₂ ix2 (Fin.ext (by show 2048 * b.val + i.val = b.val * 2048 + i.val; omega)) (Fin.ext (by show 6144 + 256 * (h.val + 4 - 4) + j.val = 6144 + (h.val * 256 + j.val); omega)))

theorem match_attn (c : Dev nD) (hf : ∀ (i : Fin 8192) (j : Fin 6144), ∃ r : ℝ, m ((c : Thread nD τ).loc main_arg1) (ix2 i ⟨j.val, by omega⟩) = (r : EReal))
    (b : Fin 4) (h : Fin 12) (r : Fin 2048) (e : Fin 256) :
    (dats m 0 c).arrAt 14 cfg0.N (ix2 (row b r) ⟨256 * (h.val + 4) + e.val, by omega⟩)
      = Cert.ReferenceIdeal.Read.val_main_v172 (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (ix4 b r h e) := by
  have hv : (pt b ⟨h.val + 4, by omega⟩).val % 16 = h.val + 4 := by show (16 * b.val + (h.val + 4)) % 16 = h.val + 4; omega
  refine (out14 m c b ⟨h.val + 4, by omega⟩ r e).trans ?_
  have h8 : AllReal (s := SQ) (iblk m c 8 (pt b ⟨h.val + 4, by omega⟩)) := by
    rw [head8]
    intro y
    have h1 : (y 1).val < 256 := (y 1).isLt
    exact hf _ ⟨0 + (h.val * 256 + (y 1).val), by omega⟩
  have h9 : AllReal (s := SQ) (iblk m c 9 (pt b ⟨h.val + 4, by omega⟩)) := by
    rw [head9]
    intro y
    have h1 : (y 1).val < 256 := (y 1).isLt
    exact hf _ ⟨3072 + (h.val * 256 + (y 1).val), by omega⟩
  refine (congrFun (outE m c (pt b ⟨h.val + 4, by omega⟩) (by omega) (by omega) (by omega) (by omega) (by omega) h8 h9) (ix2 r e)).trans ?_
  have hs : (fun (e : Fin 256) => k0_pay21 (F := Ideal) (iblk m c 4 (pt b ⟨h.val + 4, by omega⟩)) (ix2 0 e)) = fun e => m ((c : Thread nD τ).loc main_arg8) (ix2 0 e) := by
    funext e
    exact (pay21_at _ e).trans (blk4 m c _ e)
  have hl : lamK (iblk m c 0 (pt b ⟨h.val + 4, by omega⟩)) (iblk m c 1 (pt b ⟨h.val + 4, by omega⟩)) (iblk m c 2 (pt b ⟨h.val + 4, by omega⟩)) (iblk m c 3 (pt b ⟨h.val + 4, by omega⟩)) (ix2 0 0)
      = Cert.ReferenceIdeal.Read.val_main_v18 (m ((c : Thread nD τ).loc main_arg4)) (m ((c : Thread nD τ).loc main_arg5)) (m ((c : Thread nD τ).loc main_arg6)) (m ((c : Thread nD τ).loc main_arg7)) ix0 := by
    refine (lamK_at _ _ _ _).trans ?_
    simp only [blk0, blk1, blk2, blk3]
    exact (Cert.ReferenceIdeal.Mix.v18_at _ _ _ _).symm
  refine Eq.trans ?_ (Cert.ReferenceIdeal.Mix.v172_at _ _ _ _ _ _ b r h e).symm
  unfold attnBlk
  rw [hs, hl, head8, head9, head10]
  rfl

/-- The modulation's columns, at every grid point. -/
theorem ada_any (c : Dev nD) (t : Fin cfg0.N) :
    (outsAt0 m c t.val t.isLt).2 = adaBlk (iblk m c 11 t) (iblk m c 12 t) (iblk m c 13 t) := by
  by_cases h0 : t.val % 16 = 0
  · exact adaA m c t (by omega) (by omega) (by omega) (by omega) (by omega)
  by_cases h1 : t.val % 16 = 1
  · exact adaB m c t (by omega) (by omega) (by omega) (by omega) (by omega)
  by_cases h2 : t.val % 16 = 2
  · exact adaC m c t (by omega) (by omega) (by omega) (by omega) (by omega)
  by_cases h3 : t.val % 16 = 3
  · exact adaD m c t (by omega) (by omega) (by omega) (by omega) (by omega)
  · exact adaE m c t (by omega) (by omega) (by omega) (by omega) (by omega)

theorem match_ada (c : Dev nD) (t : Fin 64) (g : Fin 8) (e : Fin 256) :
    (dats m 0 c).arrAt 15 cfg0.N (ix2 g ⟨256 * t.val + e.val, by omega⟩)
      = Cert.ReferenceIdeal.Read.val_main_v185 (m ((c : Thread nD τ).loc main_arg9)) (m ((c : Thread nD τ).loc main_arg10)) (m ((c : Thread nD τ).loc main_arg11)) (ix2 g ⟨256 * t.val + e.val, by omega⟩) := by
  refine (out15 m c t t.isLt g e).trans ?_
  refine (congrFun (ada_any m c t) (ix2 g e)).trans ?_
  show adaRow (fun k => iblk m c 11 t (ix2 g k)) (fun k => iblk m c 12 t (ix2 k e)) (iblk m c 13 t (ix2 0 e)) = _
  have hw : (fun k => iblk m c 12 t (ix2 k e)) = fun k => m ((c : Thread nD τ).loc main_arg10) (ix3 0 k ⟨20480 + (256 * t.val + e.val), by omega⟩) := by
    funext k
    refine (blk12 m c t k e).trans (congrArg _ (congrArg (ix3 0 k) (Fin.ext ?_)))
    show 20480 + 256 * t.val + e.val = 20480 + (256 * t.val + e.val)
    omega
  have hb : iblk m c 13 t (ix2 0 e) = m ((c : Thread nD τ).loc main_arg11) (ix2 0 ⟨20480 + (256 * t.val + e.val), by omega⟩) := by
    refine (blk13 m c t e).trans (congrArg _ (congrArg (ix2 0) (Fin.ext ?_)))
    show 20480 + 256 * t.val + e.val = 20480 + (256 * t.val + e.val)
    omega
  rw [hw, hb]
  by_cases hg : g.val < 4
  · have hc : (fun k => iblk m c 11 t (ix2 g k)) = fun k => m ((c : Thread nD τ).loc main_arg9) (ix2 ⟨g.val, hg⟩ k) := by
      funext k
      exact (blk11 m c t g k).trans (V0_low m c ⟨g.val, hg⟩ k)
    rw [hc]
    exact (Cert.ReferenceIdeal.Mix.ada_low _ _ _ ⟨g.val, hg⟩ ⟨256 * t.val + e.val, by omega⟩).symm
  · have hc : (fun k => iblk m c 11 t (ix2 g k)) = fun k => (0 : EReal) := by
      funext k
      exact (blk11 m c t g k).trans (V0_high m c g (by omega) k)
    rw [hc]
    refine Eq.trans ?_ (Cert.ReferenceIdeal.Mix.ada_high _ _ _ g (by omega) ⟨256 * t.val + e.val, by omega⟩).symm
    unfold adaRow
    simp only [zero_mul, Finset.sum_const_zero, zero_add]

end Cert.KernelIdeal.Mix
end
-- ==== Proof.Final.lean ====
/- The mixing call's two result arrays are the reference's, from finite queries and keys. -/
module

public import proofs.«01_k».proof.Proof.Match
public import proofs.«01_k».proof.Defs
public import proofs.«01_k».proof.Proof.Gen.Pre_finite_qk

@[expose] public section

set_option maxRecDepth 16384
noncomputable section

namespace Cert.KernelIdeal.Mix

open Cert.KernelIdeal Cert.KernelIdeal.Gen Idealize.ShloMosaic Idealize.ShloMosaic.TcCoe Idealize.SL.Sem Cert.Mix

variable (m : (ℓ : Loc nD τ sig) → Buf (Elt Ideal) ℓ)

/-- What is below infinity in size is a real. -/
theorem real_of_lt (x : EReal) (e2 : Ideal.cmp .olt (FloatOps.absf (F := Ideal) (φ := .f32) x) (Ideal.ofBits .f32 0x7F800000#32) = 1#1) : ∃ r : ℝ, x = r := by
  change BitVec.ofBool (decide (max x (-x) < ⊤)) = 1#1 at e2
  have hlt : max x (-x) < ⊤ := by
    by_contra hn
    rw [decide_eq_false hn] at e2
    exact absurd e2 (by decide)
  refine ⟨EReal.toReal x, (EReal.coe_toReal ?_ ?_).symm⟩
  · rintro rfl
    simp at hlt
  · rintro rfl
    simp at hlt

/-- The precondition says that every query and key is a real. -/
theorem real_of_pre (h : Cert.Pre_KernelIdeal_finite_qk m) (c : Dev nD) (i : Fin 8192) (j : Fin 6144) :
    ∃ r : ℝ, m ((c : Thread nD τ).loc main_arg1) (ix2 i ⟨j.val, by omega⟩) = (r : EReal) := by
  have e := congrFun (h c) (ix2 i j)
  have e2 : Ideal.cmp .olt (FloatOps.absf (F := Ideal) (φ := .f32) (m ((c : Thread nD τ).loc main_arg1) (ix2 i ⟨j.val, by omega⟩))) (Ideal.ofBits .f32 0x7F800000#32) = 1#1 := by
    refine Eq.trans (Eq.symm ?_) e
    unfold Cert.Pre_finite_qk.fn
    pointwise
  generalize m ((c : Thread nD τ).loc main_arg1) (ix2 i ⟨j.val, by omega⟩) = x at e2 ⊢
  exact real_of_lt x e2

/-- The mixed columns. -/
theorem mix_eq (c : Dev nD) (hf : ∀ (i : Fin 8192) (j : Fin 6144), ∃ r : ℝ, m ((c : Thread nD τ).loc main_arg1) (ix2 i ⟨j.val, by omega⟩) = (r : EReal)) :
    (dats m 0 c).arrAt 14 cfg0.N = Cert.ReferenceIdeal.Read.val_main_v186 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  obtain ⟨i, j, rfl⟩ : ∃ (i : Fin 8192) (j : Fin 4096), y = ix2 i j := ⟨y 0, y 1, by funext a; match a with | ⟨0, _⟩ => rfl | ⟨1, _⟩ => rfl⟩
  obtain ⟨b, r, rfl⟩ : ∃ (b : Fin 4) (r : Fin 2048), i = row b r := ⟨⟨i.val / 2048, by omega⟩, ⟨i.val % 2048, by omega⟩, Fin.ext (by show i.val = 2048 * (i.val / 2048) + i.val % 2048; omega)⟩
  have hr : row b r = ⟨b.val * 2048 + r.val, by omega⟩ := Fin.ext (by show 2048 * b.val + r.val = b.val * 2048 + r.val; omega)
  by_cases hj : j.val < 1024
  · obtain ⟨g, e, hge⟩ : ∃ (g : Fin 4) (e : Fin 256), j.val = 256 * g.val + e.val := ⟨⟨j.val / 256, by omega⟩, ⟨j.val % 256, by omega⟩, by show j.val = 256 * (j.val / 256) + j.val % 256; omega⟩
    rw [show j = ⟨256 * g.val + e.val, by omega⟩ from Fin.ext hge]
    have hc : (⟨256 * g.val + e.val, by omega⟩ : Fin 4096) = ⟨g.val * 256 + e.val, by omega⟩ := Fin.ext (by show 256 * g.val + e.val = g.val * 256 + e.val; omega)
    refine (match_pool m c b g r e).trans ?_
    rw [hr, hc]
    exact (Cert.ReferenceIdeal.Mix.mix_pool _ _ _ _ _ _ _ _ _ b r g e).symm
  · obtain ⟨h, e, hge⟩ : ∃ (h : Fin 12) (e : Fin 256), j.val = 256 * (h.val + 4) + e.val := ⟨⟨j.val / 256 - 4, by omega⟩, ⟨j.val % 256, by omega⟩, by show j.val = 256 * (j.val / 256 - 4 + 4) + j.val % 256; omega⟩
    rw [show j = ⟨256 * (h.val + 4) + e.val, by omega⟩ from Fin.ext hge]
    have hc : (⟨256 * (h.val + 4) + e.val, by omega⟩ : Fin 4096) = ⟨1024 + (h.val * 256 + e.val), by omega⟩ := Fin.ext (by show 256 * (h.val + 4) + e.val = 1024 + (h.val * 256 + e.val); omega)
    refine (match_attn m c hf b h r e).trans ?_
    rw [hr, hc]
    exact (Cert.ReferenceIdeal.Mix.mix_attn _ _ _ _ _ _ _ _ _ b r h e).symm

/-- The modulation's columns. -/
theorem mod_eq (c : Dev nD) :
    (dats m 0 c).arrAt 15 cfg0.N = Cert.ReferenceIdeal.Read.val_main_v185 (m ((c : Thread nD τ).loc main_arg9)) (m ((c : Thread nD τ).loc main_arg10)) (m ((c : Thread nD τ).loc main_arg11)) := by
  funext y
  obtain ⟨g, j, rfl⟩ : ∃ (g : Fin 8) (j : Fin 16384), y = ix2 g j := ⟨y 0, y 1, by funext a; match a with | ⟨0, _⟩ => rfl | ⟨1, _⟩ => rfl⟩
  obtain ⟨t, e, rfl⟩ : ∃ (t : Fin 64) (e : Fin 256), j = ⟨256 * t.val + e.val, by omega⟩ := ⟨⟨j.val / 256, by omega⟩, ⟨j.val % 256, by omega⟩, Fin.ext (by show j.val = 256 * (j.val / 256) + j.val % 256; omega)⟩
  exact match_ada m c t g e

end Cert.KernelIdeal.Mix
end
-- ==== Proof.RefRun.lean ====
/- The reference's run, its results as the stages of `Read.lean`. -/
module

public import proofs.«01_k».proof.Proof.Gen.ReferenceIdeal.Run
public import proofs.«01_k».proof.Proof.Gen.ReferenceIdeal.Read
public import Idealize.ShloMosaic.Lib.Claim

@[expose] public section

set_option maxRecDepth 16384
noncomputable section

namespace Cert.ReferenceIdeal.Mix

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

theorem run_stages : θ_run defs (onTc (τ := τ) (main (F := Ideal))) ⟨m, fun _ => 0, ρ⟩ fun r => ∀ c : Dev nD,
    r.2.mem ((c : Thread nD τ).loc main_v186) = Read.val_main_v186 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_v185) = Read.val_main_v185 (m ((c : Thread nD τ).loc main_arg9)) (m ((c : Thread nD τ).loc main_arg10)) (m ((c : Thread nD τ).loc main_arg11)) :=
  θ_run_mono (Value.run m ρ) fun r h c => ⟨(h c).1.trans (Read.val_main_v186_eq (StableHlo.launchContents m c)), (h c).2.1.trans (Read.val_main_v185_eq (StableHlo.launchContents m c))⟩

end Cert.ReferenceIdeal.Mix
end
-- ==== Proof.Up.lean ====
/- The gated product of the feed-forward parts: each grid point's block, and the array after the run. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384
noncomputable section

namespace Cert.Kernel2Ideal.Up

open Cert.Kernel2Ideal Cert.Kernel2Ideal.Gen Idealize.ShloMosaic Idealize.ShloMosaic.TcCoe Idealize.SL.Sem

variable (m : (ℓ : Loc nD τ sig) → Buf (Elt Ideal) ℓ)

/-- One element of the gated product: a row of the input against a column of each weight. -/
def gated (h a b : Fin 4096 → EReal) : EReal :=
  (∑ k, h k * a k) * Ideal.logistic (∑ k, h k * a k) * ∑ k, h k * b k

/-- A block of the gated product. -/
def gatedBlk (h : S2048x4096.Idx → EReal) (a b : S4096x256.Idx → EReal) (y : S2048x256.Idx) : EReal :=
  gated (fun k => h (ix2 (y 0) k)) (fun k => a (ix2 k (y 1))) (fun k => b (ix2 k (y 1)))

theorem whole (inb : ∀ a, (![0, 0] : Fin 2 → ℕ) a + S4096x256.size a ≤ S4096x256.size a) (x : Vec Ideal S4096x256 .f32) :
    View.ld (Val := Elt Ideal) (e' := .f32) x (Rect.unit ![0, 0] S4096x256.size inb) = x :=
  View.ld_unit_lit (S := S4096x256) inb x (by decide)

/-- The value stored for a chunk of 512 rows. -/
theorem pay_at (a b : Vec Ideal S4096x256 .f32) (h : Vec Ideal S512x4096 .bf16) (r : Fin 512) (e : Fin 256) :
    k0_pay4 a b h (ix2 r e) = gated (fun k => h (ix2 r k)) (fun k => a (ix2 k e)) (fun k => b (ix2 k e)) := by
  pointwise [k0_pay4, k0_pay2, k0_pay3, gated]

/-- A chunk's stored values are the block's, at the chunk's rows. -/
theorem chunk (o : ℕ) (ho : o + 512 ≤ 2048) (inb : ∀ a, (![o, 0] : Fin 2 → ℕ) a + S512x4096.size a ≤ S2048x4096.size a)
    (inb' : ∀ a, (![o, 0] : Fin 2 → ℕ) a + S512x256.size a ≤ S2048x256.size a)
    (x0 : Vec Ideal S2048x4096 .bf16) (x1 x2 : Vec Ideal S4096x256 .f32) (x : (Rect.unit (s := S2048x256) ![o, 0] S512x256.size inb').shape.Idx) :
    k0_pay4 x1 x2 (View.ld x0 (Rect.unit (s := S2048x4096) ![o, 0] S512x4096.size inb)) x
      = gatedBlk x0 x1 x2 ((Rect.unit (s := S2048x256) ![o, 0] S512x256.size inb').emb x) := by
  obtain ⟨r, e, rfl⟩ : ∃ (r : Fin 512) (e : Fin 256), x = ix2 r e := ⟨x 0, x 1, by funext a; match a with | ⟨0, _⟩ => rfl | ⟨1, _⟩ => rfl⟩
  refine (pay_at x1 x2 _ r e).trans ?_
  have hy : (Rect.unit (s := S2048x256) ![o, 0] S512x256.size inb').emb (ix2 r e) = ix2 ⟨o + r.val, by omega⟩ e := by
    funext a
    match a with
    | ⟨0, _⟩ => exact Fin.ext (by show o + 1 * r.val = o + r.val; omega)
    | ⟨1, _⟩ => exact Fin.ext (by show 0 + 1 * e.val = e.val; omega)
  have hx : ∀ k : Fin 4096, View.ld x0 (Rect.unit (s := S2048x4096) ![o, 0] S512x4096.size inb) (ix2 r k) = x0 (ix2 ⟨o + r.val, by omega⟩ k) := by
    intro k
    refine congrArg x0 ?_
    funext a
    match a with
    | ⟨0, _⟩ => exact Fin.ext (by show o + 1 * r.val = o + r.val; omega)
    | ⟨1, _⟩ => exact Fin.ext (by show 0 + 1 * k.val = k.val; omega)
  rw [hy]
  exact congrArg (fun f => gated f (fun k => x1 (ix2 k e)) (fun k => x2 (ix2 k e))) (funext hx)

theorem out_eq (x0 : Vec Ideal S2048x4096 .bf16) (x1 x2 : Vec Ideal S4096x256 .f32) : out0_3 x0 x1 x2 = gatedBlk x0 x1 x2 := by
  funext y
  unfold out0_3
  refine View.canon_apply_of_pieces _ _ ?_ y (cover0_3 _ _ _ _ y)
  simp only [List.forall_mem_cons, List.not_mem_nil, false_imp_iff, implies_true, and_true]
  rw [whole inb_S4096x256_S4096x256_0_0 x1, whole inb_S4096x256_S4096x256_0_0 x2]
  exact ⟨fun x => chunk 1536 (by omega) _ _ x0 x1 x2 x, fun x => chunk 1024 (by omega) _ _ x0 x1 x2 x, fun x => chunk 512 (by omega) _ _ x0 x1 x2 x, fun x => chunk 0 (by omega) _ _ x0 x1 x2 x⟩

/-! ### The blocks -/

/-- The grid point of row block `b` and column block `t`. -/
def pt (b : Fin 4) (t : Fin 43) : Fin cfg0.N := ⟨43 * b.val + t.val, by show _ < 172; omega⟩

theorem idx : ∀ t : Fin cfg0.N, win0_0.index t = ![t.val / 43, 0] ∧ win0_1.index t = ![0, t.val % 43] ∧ win0_2.index t = ![0, t.val % 43] ∧ win0_3.index t = ![t.val / 43, t.val % 43] :=
  (by decide +kernel : ∀ t : Fin grid0.N, win0_0.index t = ![t.val / 43, 0] ∧ win0_1.index t = ![0, t.val % 43] ∧ win0_2.index t = ![0, t.val % 43] ∧ win0_3.index t = ![t.val / 43, t.val % 43])

theorem V0 (c : Dev nD) (k : Fin 4096) (e : Fin 11008) : V m c main_v0 (ix2 k e) = m ((c : Thread nD τ).loc main_arg1) (ix3 0 k e) := by
  unfold V
  simp only [List.flatten_cons, List.flatten_nil, List.append_nil, hostOps0, List.cons_append, List.nil_append]
  after_results
  pointwise

theorem V1 (c : Dev nD) (k : Fin 4096) (e : Fin 11008) : V m c main_v1 (ix2 k e) = m ((c : Thread nD τ).loc main_arg2) (ix3 0 k e) := by
  unfold V
  simp only [List.flatten_cons, List.flatten_nil, List.append_nil, hostOps0, List.cons_append, List.nil_append]
  after_results
  pointwise

theorem blk0 (c : Dev nD) (b : Fin 4) (t : Fin 43) (r : Fin 2048) (k : Fin 4096) :
    iblk m c 0 (pt b t) (ix2 r k) = m ((c : Thread nD τ).loc main_arg0) (ix2 ⟨2048 * b.val + r.val, by omega⟩ k) := by
  have hi := (idx (pt b t)).1
  have hv : (pt b t).val = 43 * b.val + t.val := rfl
  blk_ext [iblk, V_main_arg0, hi, hv]

theorem blk1 (c : Dev nD) (b : Fin 4) (t : Fin 43) (k : Fin 4096) (e : Fin 256) :
    iblk m c 1 (pt b t) (ix2 k e) = m ((c : Thread nD τ).loc main_arg1) (ix3 0 k ⟨256 * t.val + e.val, by omega⟩) := by
  have hi := (idx (pt b t)).2.1
  have hv : (pt b t).val = 43 * b.val + t.val := rfl
  have h : iblk m c 1 (pt b t) (ix2 k e) = V m c main_v0 (ix2 k ⟨256 * t.val + e.val, by omega⟩) := by blk_ext [iblk, hi, hv]
  exact h.trans (V0 m c k _)

theorem blk2 (c : Dev nD) (b : Fin 4) (t : Fin 43) (k : Fin 4096) (e : Fin 256) :
    iblk m c 2 (pt b t) (ix2 k e) = m ((c : Thread nD τ).loc main_arg2) (ix3 0 k ⟨256 * t.val + e.val, by omega⟩) := by
  have hi := (idx (pt b t)).2.2.1
  have hv : (pt b t).val = 43 * b.val + t.val := rfl
  have h : iblk m c 2 (pt b t) (ix2 k e) = V m c main_v1 (ix2 k ⟨256 * t.val + e.val, by omega⟩) := by blk_ext [iblk, hi, hv]
  exact h.trans (V1 m c k _)

theorem out3 (c : Dev nD) (b : Fin 4) (t : Fin 43) (r : Fin 2048) (e : Fin 256) :
    (dats m 0 c).arrAt 3 cfg0.N (ix2 ⟨2048 * b.val + r.val, by omega⟩ ⟨256 * t.val + e.val, by omega⟩)
      = out0_3 (iblk m c 0 (pt b t)) (iblk m c 1 (pt b t)) (iblk m c 2 (pt b t)) (ix2 r e) := by
  have hi := (idx (pt b t)).2.2.2
  have hv : (pt b t).val = 43 * b.val + t.val := rfl
  have h := congrFun (Value.blocks3 m c (pt b t) ((by decide +kernel : ∀ t : Fin grid0.N, win0_3.flush t = true) _)) (ix2 r e)
  rw [Value.flushed3] at h
  have hc : (cfg0.win 3).cut (grid0.coords (pt b t)) (out0_3 (iblk m c 0 (pt b t)) (iblk m c 1 (pt b t)) (iblk m c 2 (pt b t))) (ix2 r e)
      = out0_3 (iblk m c 0 (pt b t)) (iblk m c 1 (pt b t)) (iblk m c 2 (pt b t)) (ix2 r e) := rfl
  rw [← hc, ← h]
  symm
  blk_ext [hi, hv]

/-! ### The reference -/

open Cert.Reference2Ideal.Read in
theorem ref_at (x0 : Vec Ideal S8192x4096 .bf16) (x1 x2 : Vec Ideal S1x4096x11008 .f32) (r : Fin 8192) (e : Fin 11008) :
    val_main_v7 (F := Ideal) x0 x1 x2 (ix2 r e) = gated (fun k => x0 (ix2 r k)) (fun k => x1 (ix3 0 k e)) (fun k => x2 (ix3 0 k e)) := by
  unfold val_main_v7 val_main_v6 val_main_v5 val_main_v4 val_main_v3 val_main_call0_v5 val_main_call0_v4 val_main_call0_v3 val_main_call0_v2 val_main_call0_v1 val_main_call0_v0 val_main_call0_cst val_main_call0_cst_0 val_main_v2 val_main_v1 val_main_v0
  pointwise [Ideal.logistic, gated]

/-- The array after the run is the reference's. -/
theorem up_eq (c : Dev nD) :
    (dats m 0 c).arrAt 3 cfg0.N = Cert.Reference2Ideal.Read.val_main_v7 (m ((c : Thread nD τ).loc main_arg0)) (m ((c : Thread nD τ).loc main_arg1)) (m ((c : Thread nD τ).loc main_arg2)) := by
  funext y
  obtain ⟨i, j, rfl⟩ : ∃ (i : Fin 8192) (j : Fin 11008), y = ix2 i j := ⟨y 0, y 1, by funext a; match a with | ⟨0, _⟩ => rfl | ⟨1, _⟩ => rfl⟩
  obtain ⟨b, r, hbr⟩ : ∃ (b : Fin 4) (r : Fin 2048), i.val = 2048 * b.val + r.val := ⟨⟨i.val / 2048, by omega⟩, ⟨i.val % 2048, by omega⟩, by show i.val = 2048 * (i.val / 2048) + i.val % 2048; omega⟩
  obtain ⟨t, e, hte⟩ : ∃ (t : Fin 43) (e : Fin 256), j.val = 256 * t.val + e.val := ⟨⟨j.val / 256, by omega⟩, ⟨j.val % 256, by omega⟩, by show j.val = 256 * (j.val / 256) + j.val % 256; omega⟩
  rw [show i = ⟨2048 * b.val + r.val, by omega⟩ from Fin.ext hbr, show j = ⟨256 * t.val + e.val, by omega⟩ from Fin.ext hte]
  refine (out3 m c b t r e).trans ((congrFun (out_eq _ _ _) (ix2 r e)).trans ?_)
  refine Eq.trans ?_ (ref_at _ _ _ _ _).symm
  show gated (fun k => iblk m c 0 (pt b t) (ix2 r k)) (fun k => iblk m c 1 (pt b t) (ix2 k e)) (fun k => iblk m c 2 (pt b t) (ix2 k e)) = _
  rw [show (fun k => iblk m c 0 (pt b t) (ix2 r k)) = _ from funext (blk0 m c b t r), show (fun k => iblk m c 1 (pt b t) (ix2 k e)) = _ from funext fun k => blk1 m c b t k e,
    show (fun k => iblk m c 2 (pt b t) (ix2 k e)) = _ from funext fun k => blk2 m c b t k e]

theorem run_stages (m' : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m', fun _ => 0, ρ⟩ fun r => ∀ c : Dev Cert.Reference2Ideal.nD,
      r.2.mem ((c : Thread Cert.Reference2Ideal.nD Cert.Reference2Ideal.τ).loc Cert.Reference2Ideal.main_v7) = Cert.Reference2Ideal.Read.val_main_v7 (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) :=
  θ_run_mono (Cert.Reference2Ideal.Value.run m' ρ) fun r h c => (h c).1.trans (Cert.Reference2Ideal.Read.val_main_v7_eq _ _ _)

end Cert.Kernel2Ideal.Up
end
-- ==== Proof.Ada.lean ====
/- The early part of the modulation: each grid point's block, the array after the run, and the reference's. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.KernelVsHost
public import Idealize.ShloMosaic.Lib.Pointwise
public import Idealize.ShloMosaic.Lib.Claim

@[expose] public section

set_option maxRecDepth 16384
noncomputable section

namespace Cert.Kernel4Ideal.Ada

open Cert.Kernel4Ideal Cert.Kernel4Ideal.Gen Idealize.ShloMosaic Idealize.ShloMosaic.TcCoe Idealize.SL.Sem

variable (m : (ℓ : Loc nD τ sig) → Buf (Elt Ideal) ℓ)

/-- One element of the modulation: a row of the condition through silu, against a column of the weight, and the bias. -/
def modAt (f w : Fin 4096 → EReal) (b : EReal) : EReal := ∑ k, f k * Ideal.logistic (f k) * w k + b

theorem pay_at (f : Vec Ideal S8x4096 .f32) (w : Vec Ideal S4096x512 .f32) (b : Vec Ideal S1x512 .f32) (g : Fin 8) (e : Fin 512) :
    k0_pay1 f w b (ix2 g e) = modAt (fun k => f (ix2 g k)) (fun k => w (ix2 k e)) (b (ix2 0 e)) := by
  pointwise [k0_pay1, modAt]

theorem out_at (f : Vec Ideal S8x4096 .f32) (w : Vec Ideal S4096x512 .f32) (b : Vec Ideal S1x512 .f32) (g : Fin 8) (e : Fin 512) :
    out0_3 f w b (ix2 g e) = modAt (fun k => f (ix2 g k)) (fun k => w (ix2 k e)) (b (ix2 0 e)) := by
  have h0 : (![0, 0] : Fin 2 → ℕ) = fun _ => 0 := by funext a; match a with | ⟨0, _⟩ => rfl | ⟨1, _⟩ => rfl
  unfold out0_3
  rw [View.canon_unit_zero h0, View.ld_unit_lit (S := S8x4096) _ f (by decide), View.ld_unit_lit (S := S4096x512) _ w (by decide), View.ld_unit_lit (S := S1x512) _ b (by decide)]
  exact pay_at f w b g e

/-! ### The blocks -/

theorem V_ops (c : Dev nD) (b) : V m c b = StableHlo.after (hostOps0 ++ (hostOps0_1 ++ hostOps0_2)) (fun b => m (c, b)) b := by
  unfold V
  simp only [List.flatten_cons, List.flatten_nil, List.append_nil]

theorem V1 (c : Dev nD) (d : Fin 4096) (e : Fin 36864) : V m c main_v1 (ix2 d e) = m ((c : Thread nD τ).loc main_arg1) (ix3 0 d e) := by
  rw [V_ops]
  simp only [hostOps0, hostOps0_1, hostOps0_2, List.cons_append, List.nil_append]
  after_results
  pointwise

theorem V3 (c : Dev nD) (e : Fin 36864) : V m c main_v3 (ix2 0 e) = m ((c : Thread nD τ).loc main_arg2) (ix2 0 e) := by
  rw [V_ops]
  simp only [hostOps0, hostOps0_1, hostOps0_2, List.cons_append, List.nil_append]
  after_results
  pointwise

/-- The padded batch rows: the first four are the argument's. -/
theorem V0_low (c : Dev nD) (g : Fin 4) (d : Fin 4096) : V m c main_v0 (ix2 ⟨g.val, by omega⟩ d) = m ((c : Thread nD τ).loc main_arg0) (ix2 g d) := by
  rw [V_ops]
  simp only [hostOps0, hostOps0_1, hostOps0_2, List.cons_append, List.nil_append]
  after_results
  refine pad_apply_of_inside (s := S4x4096) (t := S8x4096) ![0, 0] ![4, 0] ![0, 0] (m ((c : Thread nD τ).loc main_arg0)) (sitofp (F := Ideal) FTy.f32 (constantI S_ 32 0#32)) pads_S4x4096_S8x4096_040_000 h_S_ (ix2 ⟨g.val, by omega⟩ d) (ix2 g d) fun a => ?_
  match a with
  | ⟨0, _⟩ => show g.val = 0 + g.val * 1; omega
  | ⟨1, _⟩ => show d.val = 0 + d.val * 1; omega

/-- The other four are zero. -/
theorem V0_high (c : Dev nD) (g : Fin 8) (hg : 4 ≤ g.val) (d : Fin 4096) : V m c main_v0 (ix2 g d) = (0 : EReal) := by
  rw [V_ops]
  simp only [hostOps0, hostOps0_1, hostOps0_2, List.cons_append, List.nil_append]
  after_results
  refine (pad_apply_of_not_inside (s := S4x4096) (t := S8x4096) ![0, 0] ![4, 0] ![0, 0] (m ((c : Thread nD τ).loc main_arg0)) (sitofp (F := Ideal) FTy.f32 (constantI S_ 32 0#32)) pads_S4x4096_S8x4096_040_000 h_S_ (ix2 g d) ⟨0, by decide⟩ fun h => ?_).trans ?_
  · have h2 := h.2.2
    change (g.val - 0) / 1 < 4 at h2
    omega
  · pointwise
    show (((0#32 : BitVec 32).toInt : ℝ) : EReal) = 0
    simp

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, win0_0.index t = ![0, 0] ∧ win0_1.index t = ![0, t.val] ∧ win0_2.index t = ![0, t.val] ∧ win0_3.index t = ![0, t.val])

theorem lt (t : Fin cfg0.N) : t.val < 40 := t.isLt

theorem blk0 (c : Dev nD) (t : Fin cfg0.N) (g : Fin 8) (k : Fin 4096) : iblk m c 0 t (ix2 g k) = V m c main_v0 (ix2 g k) := by
  have hi := (idx t).1
  blk_ext [iblk, hi]

theorem blk1 (c : Dev nD) (t : Fin cfg0.N) (k : Fin 4096) (e : Fin 512) :
    iblk m c 1 t (ix2 k e) = m ((c : Thread nD τ).loc main_arg1) (ix3 0 k ⟨512 * t.val + e.val, by have := lt t; omega⟩) := by
  have hi := (idx t).2.1
  have h : iblk m c 1 t (ix2 k e) = V m c main_v1 (ix2 k ⟨512 * t.val + e.val, by have := lt t; omega⟩) := by blk_ext [iblk, hi]
  exact h.trans (V1 m c k _)

theorem blk2 (c : Dev nD) (t : Fin cfg0.N) (e : Fin 512) :
    iblk m c 2 t (ix2 0 e) = m ((c : Thread nD τ).loc main_arg2) (ix2 0 ⟨512 * t.val + e.val, by have := lt t; omega⟩) := by
  have hi := (idx t).2.2.1
  have h : iblk m c 2 t (ix2 0 e) = V m c main_v3 (ix2 0 ⟨512 * t.val + e.val, by have := lt t; omega⟩) := by blk_ext [iblk, hi]
  exact h.trans (V3 m c _)

theorem out3 (c : Dev nD) (t : Fin cfg0.N) (g : Fin 8) (e : Fin 512) :
    (dats m 0 c).arrAt 3 cfg0.N (ix2 g ⟨512 * t.val + e.val, by have := lt t; omega⟩)
      = out0_3 (iblk m c 0 t) (iblk m c 1 t) (iblk m c 2 t) (ix2 g e) := by
  have hi := (idx t).2.2.2
  have h := congrFun (Value.blocks3 m c t ((by decide +kernel : ∀ t : Fin grid0.N, win0_3.flush t = true) t)) (ix2 g e)
  rw [Value.flushed3] at h
  have hc : (cfg0.win 3).cut (grid0.coords t) (out0_3 (iblk m c 0 t) (iblk m c 1 t) (iblk m c 2 t)) (ix2 g e)
      = out0_3 (iblk m c 0 t) (iblk m c 1 t) (iblk m c 2 t) (ix2 g e) := rfl
  rw [← hc, ← h]
  symm
  blk_ext [hi]

/-! ### The reference -/

section
open Cert.Reference4Ideal.Read

theorem ref_bias (x2 : Vec Ideal S1x36864 .f32) (g : Fin 8) (e : Fin 20480) :
    val_main_v8 (F := Ideal) x2 (ix2 g e) = x2 (ix2 0 ⟨e.val, by omega⟩) := by
  unfold val_main_v8 val_main_v7 val_main_v6 val_main_v5
  pointwise

theorem ref_dot (x0 : Vec Ideal S4x4096 .f32) (x1 : Vec Ideal S1x4096x36864 .f32) (g : Fin 4) (e : Fin 20480) :
    val_main_v3 (F := Ideal) x0 x1 (ix2 g e) = ∑ k : Fin 4096, x0 (ix2 g k) * Ideal.logistic (x0 (ix2 g k)) * x1 (ix3 0 k ⟨e.val, by omega⟩) := by
  unfold val_main_v3 val_main_v2 val_main_v1 val_main_v0 val_main_call0_v5 val_main_call0_v4 val_main_call0_v3 val_main_call0_v2 val_main_call0_v1 val_main_call0_v0 val_main_call0_cst val_main_call0_cst_0
  pointwise [Ideal.logistic]

theorem ref_low (x0 : Vec Ideal S4x4096 .f32) (x1 : Vec Ideal S1x4096x36864 .f32) (x2 : Vec Ideal S1x36864 .f32) (g : Fin 4) (e : Fin 20480) :
    val_main_v9 (F := Ideal) x0 x1 x2 (ix2 ⟨g.val, by omega⟩ e) = modAt (fun k => x0 (ix2 g k)) (fun k => x1 (ix3 0 k ⟨e.val, by omega⟩)) (x2 (ix2 0 ⟨e.val, by omega⟩)) := by
  have hp : val_main_v4 (F := Ideal) x0 x1 (ix2 ⟨g.val, by omega⟩ e) = val_main_v3 (F := Ideal) x0 x1 (ix2 g e) := by
    unfold val_main_v4
    refine pad_apply_of_inside (s := Cert.Reference4Ideal.S4x20480) (t := S8x20480) ![0, 0] ![4, 0] ![0, 0] _ _ _ _ _ _ (fun k => ?_)
    match k with
    | ⟨0, _⟩ => show g.val = 0 + g.val * (0 + 1); omega
    | ⟨1, _⟩ => show e.val = 0 + e.val * (0 + 1); omega
  show val_main_v4 (F := Ideal) x0 x1 _ + val_main_v8 (F := Ideal) x2 _ = _
  rw [hp, ref_dot, ref_bias]
  rfl

theorem ref_high (x0 : Vec Ideal S4x4096 .f32) (x1 : Vec Ideal S1x4096x36864 .f32) (x2 : Vec Ideal S1x36864 .f32) (g : Fin 8) (hg : 4 ≤ g.val) (e : Fin 20480) :
    val_main_v9 (F := Ideal) x0 x1 x2 (ix2 g e) = x2 (ix2 0 ⟨e.val, by omega⟩) := by
  have hp : val_main_v4 (F := Ideal) x0 x1 (ix2 g e) = 0 := by
    unfold val_main_v4
    rw [pad_apply_of_not_inside (s := Cert.Reference4Ideal.S4x20480) (t := S8x20480) ![0, 0] ![4, 0] ![0, 0] _ _ _ _ (ix2 g e) 0 (fun hin => by
      have h3 : (g.val - 0) / (0 + 1) < 4 := hin.2.2
      omega)]
    show (((0#32 : BitVec 32).toInt : ℝ) : EReal) = 0
    simp
  show val_main_v4 (F := Ideal) x0 x1 _ + val_main_v8 (F := Ideal) x2 _ = _
  rw [hp, ref_bias, zero_add]

end

/-- The array after the run is the reference's. -/
theorem ada_eq (c : Dev nD) :
    (dats m 0 c).arrAt 3 cfg0.N = Cert.Reference4Ideal.Read.val_main_v9 (m ((c : Thread nD τ).loc main_arg0)) (m ((c : Thread nD τ).loc main_arg1)) (m ((c : Thread nD τ).loc main_arg2)) := by
  funext y
  obtain ⟨g, j, rfl⟩ : ∃ (g : Fin 8) (j : Fin 20480), y = ix2 g j := ⟨y 0, y 1, by funext a; match a with | ⟨0, _⟩ => rfl | ⟨1, _⟩ => rfl⟩
  obtain ⟨t, e, rfl⟩ : ∃ (t : Fin 40) (e : Fin 512), j = ⟨512 * t.val + e.val, by omega⟩ := ⟨⟨j.val / 512, by omega⟩, ⟨j.val % 512, by omega⟩, Fin.ext (by show j.val = 512 * (j.val / 512) + j.val % 512; omega)⟩
  refine (out3 m c t g e).trans ((out_at _ _ _ g e).trans ?_)
  rw [show (fun k => iblk m c 1 t (ix2 k e)) = _ from funext fun k => blk1 m c t k e, show iblk m c 2 t (ix2 0 e) = _ from blk2 m c t e]
  by_cases hg : g.val < 4
  · rw [show (fun k => iblk m c 0 t (ix2 g k)) = fun k => m ((c : Thread nD τ).loc main_arg0) (ix2 ⟨g.val, hg⟩ k) from funext fun k => (blk0 m c t g k).trans (V0_low m c ⟨g.val, hg⟩ k)]
    exact (ref_low _ _ _ ⟨g.val, hg⟩ ⟨512 * t.val + e.val, by omega⟩).symm
  · rw [show (fun k => iblk m c 0 t (ix2 g k)) = fun k => (0 : EReal) from funext fun k => (blk0 m c t g k).trans (V0_high m c g (by omega) k)]
    refine Eq.trans ?_ (ref_high _ _ _ g (by omega) ⟨512 * t.val + e.val, by omega⟩).symm
    unfold modAt
    simp only [zero_mul, Finset.sum_const_zero, zero_add]

theorem run_stages (m' : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m', fun _ => 0, ρ⟩ fun r => ∀ c : Dev Cert.Reference4Ideal.nD,
      r.2.mem ((c : Thread Cert.Reference4Ideal.nD Cert.Reference4Ideal.τ).loc Cert.Reference4Ideal.main_v9) = Cert.Reference4Ideal.Read.val_main_v9 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) :=
  θ_run_mono (Cert.Reference4Ideal.Value.run m' ρ) fun r h c => (h c).1.trans (Cert.Reference4Ideal.Read.val_main_v9_eq _ _ _)

end Cert.Kernel4Ideal.Ada
end
-- ==== Proof.Prenorm.lean ====
/- The modulated norm before the first sub-layer: each grid point's block, the array after the run, and the reference's. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384
noncomputable section

namespace Cert.Kernel5Ideal.Prenorm

open Cert.Kernel5Ideal Cert.Kernel5Ideal.Gen Idealize.ShloMosaic Idealize.ShloMosaic.TcCoe Idealize.SL.Sem

variable (m : (ℓ : Loc nD τ sig) → Buf (Elt Ideal) ℓ)

/-- The factor of a row: one over the root of its mean square. -/
def invRms (x : Fin 4096 → EReal) : EReal :=
  Ideal.rsqrt (Ideal.div (∑ k, x k * x k) (Ideal.ofBits .f32 0x45800000#32) + Ideal.ofBits .f32 0x358637BD#32)

/-- An element of a normed row, scaled and shifted. -/
def normed (x : Fin 4096 → EReal) (k : Fin 4096) (shift scale g : EReal) : EReal :=
  x k * invRms x * (g * (Ideal.ofBits .f32 0x3F800000#32 + scale)) + shift

/-- A block of normed rows, all of one batch. -/
def normedBlk (x : S512x4096.Idx → EReal) (sh sc : S1x1x4096.Idx → EReal) (g : S1x4096.Idx → EReal) (y : S512x4096.Idx) : EReal :=
  normed (fun k => x (ix2 (y 0) k)) (y 1) (sh (ix3 0 0 (y 1))) (sc (ix3 0 0 (y 1))) (g (ix2 0 (y 1)))

/-- The value stored for a chunk of eight rows. -/
theorem pay_at (gs sh : FVec Ideal S1x4096 .f32) (x : Vec Ideal S8x4096 .f32) (r : Fin 8) (e : Fin 4096) :
    k0_pay1 gs sh x (ix2 r e) = x (ix2 r e) * invRms (fun k => x (ix2 r k)) * gs (ix2 0 e) + sh (ix2 0 e) := by
  pointwise [k0_pay1, invRms]

theorem gs_at (sc : Vec Ideal S1x1x4096 .f32) (g : Vec Ideal S1x4096 .f32) (e : Fin 4096) :
    k0_pay2 g sc (ix2 0 e) = g (ix2 0 e) * (Ideal.ofBits .f32 0x3F800000#32 + sc (ix3 0 0 e)) := by
  pointwise [k0_pay2]

theorem sh_at (sh : Vec Ideal S1x1x4096 .f32) (e : Fin 4096) : k0_pay3 sh (ix2 0 e) = sh (ix3 0 0 e) := by
  pointwise [k0_pay3]

/-- A chunk's stored values are the block's, at the chunk's rows. -/
theorem chunk (o : ℕ) (ho : o + 8 ≤ 512) (inb : ∀ a, (![o, 0] : Fin 2 → ℕ) a + S8x4096.size a ≤ S512x4096.size a)
    (x0 : Vec Ideal S512x4096 .f32) (sh sc : Vec Ideal S1x1x4096 .f32) (g : Vec Ideal S1x4096 .f32) (x : (Rect.unit (s := S512x4096) ![o, 0] S8x4096.size inb).shape.Idx) :
    k0_pay1 (k0_pay2 g sc) (k0_pay3 sh) (View.ld x0 (Rect.unit (s := S512x4096) ![o, 0] S8x4096.size inb)) x
      = normedBlk x0 sh sc g ((Rect.unit (s := S512x4096) ![o, 0] S8x4096.size inb).emb x) := by
  obtain ⟨r, e, rfl⟩ : ∃ (r : Fin 8) (e : Fin 4096), x = ix2 r e := ⟨x 0, x 1, by funext a; match a with | ⟨0, _⟩ => rfl | ⟨1, _⟩ => rfl⟩
  refine (pay_at _ _ _ r e).trans ?_
  have hy : ∀ k : Fin 4096, (Rect.unit (s := S512x4096) ![o, 0] S8x4096.size inb).emb (ix2 r k) = ix2 ⟨o + r.val, by omega⟩ k := by
    intro k
    funext a
    match a with
    | ⟨0, _⟩ => exact Fin.ext (by show o + 1 * r.val = o + r.val; omega)
    | ⟨1, _⟩ => exact Fin.ext (by show 0 + 1 * k.val = k.val; omega)
  have hx : ∀ k : Fin 4096, View.ld x0 (Rect.unit (s := S512x4096) ![o, 0] S8x4096.size inb) (ix2 r k) = x0 (ix2 ⟨o + r.val, by omega⟩ k) :=
    fun k => congrArg x0 (hy k)
  rw [hy e, gs_at, sh_at, hx e, show (fun k => View.ld x0 (Rect.unit (s := S512x4096) ![o, 0] S8x4096.size inb) (ix2 r k)) = _ from funext hx]
  rfl

theorem whole3 (inb : ∀ a, (![0, 0, 0] : Fin 3 → ℕ) a + S1x1x4096.size a ≤ S1x1x4096.size a) (x : Vec Ideal S1x1x4096 .f32) :
    View.ld (Val := Elt Ideal) (e' := .f32) x (Rect.unit ![0, 0, 0] S1x1x4096.size inb) = x :=
  View.ld_unit_lit (S := S1x1x4096) inb x (by decide)

theorem whole2 (inb : ∀ a, (![0, 0] : Fin 2 → ℕ) a + S1x4096.size a ≤ S1x4096.size a) (x : Vec Ideal S1x4096 .f32) :
    View.ld (Val := Elt Ideal) (e' := .f32) x (Rect.unit ![0, 0] S1x4096.size inb) = x :=
  View.ld_unit_lit (S := S1x4096) inb x (by decide)

theorem gs_eq (x0 : Vec Ideal S512x4096 .f32) (x1 x2 : Vec Ideal S1x1x4096 .f32) (x3 : Vec Ideal S1x4096 .f32) : k0_pay94 x0 x1 x2 x3 = k0_pay2 x3 x2 := by
  unfold k0_pay94
  rw [whole2, whole3]

theorem sh_eq (x0 : Vec Ideal S512x4096 .f32) (x1 x2 : Vec Ideal S1x1x4096 .f32) (x3 : Vec Ideal S1x4096 .f32) : k0_pay95 x0 x1 x2 x3 = k0_pay3 x1 := by
  unfold k0_pay95
  rw [whole3]

theorem out_eq (x0 : Vec Ideal S512x4096 .f32) (x1 x2 : Vec Ideal S1x1x4096 .f32) (x3 : Vec Ideal S1x4096 .f32) : out0_4 x0 x1 x2 x3 = normedBlk x0 x1 x2 x3 := by
  funext y
  unfold out0_4
  refine View.canon_apply_of_pieces _ _ ?_ y (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  simp only [List.forall_mem_cons, List.not_mem_nil, false_imp_iff, implies_true, and_true]
  have hs := gs_eq x0 x1 x2 x3
  have ht := sh_eq x0 x1 x2 x3
  generalize k0_pay94 x0 x1 x2 x3 = gs at hs ⊢
  generalize k0_pay95 x0 x1 x2 x3 = sh at ht ⊢
  subst hs ht
  rw [show View.ld x3 r0_0 = x3 from whole2 _ x3, show View.ld x2 r0_1 = x2 from whole3 _ x2, show View.ld x1 r0_1 = x1 from whole3 _ x1]
  repeat' apply And.intro
  all_goals exact fun x => chunk _ (by omega) _ x0 x1 x2 x3 x

/-! ### The blocks -/

/-- The grid point of batch `b` and part `p` of its rows. -/
def pt (b p : Fin 4) : Fin cfg0.N := ⟨4 * b.val + p.val, by show _ < 16; omega⟩

theorem idx : ∀ t : Fin cfg0.N, win0_0.index t = ![t.val, 0] ∧ win0_1.index t = ![t.val / 4, 0, 0] ∧ win0_2.index t = ![t.val / 4, 0, 0] ∧ win0_3.index t = ![0, 0] ∧ win0_4.index t = ![t.val, 0] :=
  (by decide +kernel : ∀ t : Fin grid0.N, win0_0.index t = ![t.val, 0] ∧ win0_1.index t = ![t.val / 4, 0, 0] ∧ win0_2.index t = ![t.val / 4, 0, 0] ∧ win0_3.index t = ![0, 0] ∧ win0_4.index t = ![t.val, 0])

theorem blk0 (c : Dev nD) (b p : Fin 4) (r : Fin 512) (k : Fin 4096) :
    iblk m c 0 (pt b p) (ix2 r k) = m ((c : Thread nD τ).loc main_arg0) (ix2 ⟨2048 * b.val + (512 * p.val + r.val), by omega⟩ k) := by
  have hi := (idx (pt b p)).1
  have hv : (pt b p).val = 4 * b.val + p.val := rfl
  have hr : (⟨2048 * b.val + (512 * p.val + r.val), by omega⟩ : Fin 8192) = ⟨512 * (4 * b.val + p.val) + r.val, by omega⟩ := Fin.ext (by show 2048 * b.val + (512 * p.val + r.val) = 512 * (4 * b.val + p.val) + r.val; omega)
  rw [hr]
  blk_ext [iblk, V_main_arg0, hi, hv]

theorem blk1 (c : Dev nD) (b p : Fin 4) (k : Fin 4096) :
    iblk m c 1 (pt b p) (ix3 0 0 k) = m ((c : Thread nD τ).loc main_arg1) (ix3 b 0 k) := by
  have hi := (idx (pt b p)).2.1
  have hv : (pt b p).val / 4 = b.val := by show (4 * b.val + p.val) / 4 = b.val; omega
  blk_ext [iblk, V_main_arg1, hi, hv]

theorem blk2 (c : Dev nD) (b p : Fin 4) (k : Fin 4096) :
    iblk m c 2 (pt b p) (ix3 0 0 k) = m ((c : Thread nD τ).loc main_arg2) (ix3 b 0 k) := by
  have hi := (idx (pt b p)).2.2.1
  have hv : (pt b p).val / 4 = b.val := by show (4 * b.val + p.val) / 4 = b.val; omega
  blk_ext [iblk, V_main_arg2, hi, hv]

theorem blk3 (c : Dev nD) (b p : Fin 4) (k : Fin 4096) :
    iblk m c 3 (pt b p) (ix2 0 k) = m ((c : Thread nD τ).loc main_arg3) (ix2 0 k) := by
  have hi := (idx (pt b p)).2.2.2.1
  blk_ext [iblk, V_main_arg3, hi]

theorem out4 (c : Dev nD) (b p : Fin 4) (r : Fin 512) (e : Fin 4096) :
    (dats m 0 c).arrAt 4 cfg0.N (ix2 ⟨2048 * b.val + (512 * p.val + r.val), by omega⟩ e)
      = out0_4 (iblk m c 0 (pt b p)) (iblk m c 1 (pt b p)) (iblk m c 2 (pt b p)) (iblk m c 3 (pt b p)) (ix2 r e) := by
  have hi := (idx (pt b p)).2.2.2.2
  have hv : (pt b p).val = 4 * b.val + p.val := rfl
  have hr : (⟨2048 * b.val + (512 * p.val + r.val), by omega⟩ : Fin 8192) = ⟨512 * (4 * b.val + p.val) + r.val, by omega⟩ := Fin.ext (by show 2048 * b.val + (512 * p.val + r.val) = 512 * (4 * b.val + p.val) + r.val; omega)
  have h := congrFun (Value.blocks4 m c (pt b p) ((by decide +kernel : ∀ t : Fin grid0.N, win0_4.flush t = true) _)) (ix2 r e)
  rw [Value.flushed4] at h
  have hc : (cfg0.win 4).cut (grid0.coords (pt b p)) (out0_4 (iblk m c 0 (pt b p)) (iblk m c 1 (pt b p)) (iblk m c 2 (pt b p)) (iblk m c 3 (pt b p))) (ix2 r e)
      = out0_4 (iblk m c 0 (pt b p)) (iblk m c 1 (pt b p)) (iblk m c 2 (pt b p)) (iblk m c 3 (pt b p)) (ix2 r e) := rfl
  rw [← hc, ← h, hr]
  symm
  blk_ext [hi, hv]

/-! ### The reference -/

section
open Cert.Reference5Ideal.Read

/-- The mean square's inverse root, of a row of the reshaped input. -/
theorem ref_inv (x0 : Vec Ideal S8192x4096 .f32) (b : Fin 4) (r : Fin 2048) :
    val_main_v8 (F := Ideal) x0 (ix3 b r 0) = invRms fun k => x0 (ix2 ⟨b.val * 2048 + r.val, by omega⟩ k) := by
  unfold val_main_v8 val_main_v7 val_main_v6 val_main_v5 val_main_v4 val_main_v3 val_main_v2 val_main_v1 val_main_v0 val_main_cst val_main_cst_0 val_main_cst_1
  pointwise [invRms]

theorem ref_at (x0 : Vec Ideal S8192x4096 .f32) (x1 x2 : Vec Ideal S4x1x4096 .f32) (x3 : Vec Ideal S1x4096 .f32) (b : Fin 4) (r : Fin 2048) (e : Fin 4096) :
    val_main_v22 (F := Ideal) x0 x1 x2 x3 (ix2 ⟨b.val * 2048 + r.val, by omega⟩ e)
      = normed (fun k => x0 (ix2 ⟨b.val * 2048 + r.val, by omega⟩ k)) e (x1 (ix3 b 0 e)) (x2 (ix3 b 0 e)) (x3 (ix2 0 e)) := by
  have h : val_main_v22 (F := Ideal) x0 x1 x2 x3 (ix2 ⟨b.val * 2048 + r.val, by omega⟩ e)
      = x0 (ix2 ⟨b.val * 2048 + r.val, by omega⟩ e) * val_main_v8 (F := Ideal) x0 (ix3 b r 0) * x3 (ix2 0 e) * (Ideal.ofBits .f32 0x3F800000#32 + x2 (ix3 b 0 e)) + x1 (ix3 b 0 e) := by
    unfold val_main_v22 val_main_v21 val_main_v20 val_main_v19 val_main_v18 val_main_v17 val_main_v16 val_main_v15 val_main_v14 val_main_v13 val_main_v12 val_main_v11 val_main_v10 val_main_v9 val_main_v0 val_main_cst_2
    generalize val_main_v8 (F := Ideal) x0 = z
    pointwise
  rw [h, ref_inv]
  unfold normed
  rw [mul_assoc (_ * _) (x3 _)]

end

/-- The array after the run is the reference's. -/
theorem prenorm_eq (c : Dev nD) :
    (dats m 0 c).arrAt 4 cfg0.N = Cert.Reference5Ideal.Read.val_main_v22 (m ((c : Thread nD τ).loc main_arg0)) (m ((c : Thread nD τ).loc main_arg1)) (m ((c : Thread nD τ).loc main_arg2)) (m ((c : Thread nD τ).loc main_arg3)) := by
  funext y
  obtain ⟨i, e, rfl⟩ : ∃ (i : Fin 8192) (e : Fin 4096), y = ix2 i e := ⟨y 0, y 1, by funext a; match a with | ⟨0, _⟩ => rfl | ⟨1, _⟩ => rfl⟩
  obtain ⟨b, p, r, rfl⟩ : ∃ (b p : Fin 4) (r : Fin 512), i = ⟨2048 * b.val + (512 * p.val + r.val), by omega⟩ :=
    ⟨⟨i.val / 2048, by omega⟩, ⟨i.val / 512 % 4, by omega⟩, ⟨i.val % 512, by omega⟩, Fin.ext (by show i.val = 2048 * (i.val / 2048) + (512 * (i.val / 512 % 4) + i.val % 512); omega)⟩
  have hi : (⟨2048 * b.val + (512 * p.val + r.val), by omega⟩ : Fin 8192) = ⟨b.val * 2048 + (512 * p.val + r.val), by omega⟩ := Fin.ext (by show 2048 * b.val + (512 * p.val + r.val) = b.val * 2048 + (512 * p.val + r.val); omega)
  refine (out4 m c b p r e).trans ((congrFun (out_eq _ _ _ _) (ix2 r e)).trans ?_)
  rw [hi]
  refine Eq.trans ?_ (ref_at _ _ _ _ b ⟨512 * p.val + r.val, by omega⟩ e).symm
  show normed (fun k => iblk m c 0 (pt b p) (ix2 r k)) e (iblk m c 1 (pt b p) (ix3 0 0 e)) (iblk m c 2 (pt b p) (ix3 0 0 e)) (iblk m c 3 (pt b p) (ix2 0 e)) = _
  rw [show (fun k => iblk m c 0 (pt b p) (ix2 r k)) = _ from funext fun k => (blk0 m c b p r k).trans (by rw [hi]), show iblk m c 1 (pt b p) (ix3 0 0 e) = _ from blk1 m c b p e,
    show iblk m c 2 (pt b p) (ix3 0 0 e) = _ from blk2 m c b p e, show iblk m c 3 (pt b p) (ix2 0 e) = _ from blk3 m c b p e]

theorem run_stages (m' : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m', fun _ => 0, ρ⟩ fun r => ∀ c : Dev Cert.Reference5Ideal.nD,
      r.2.mem ((c : Thread Cert.Reference5Ideal.nD Cert.Reference5Ideal.τ).loc Cert.Reference5Ideal.main_v22) = Cert.Reference5Ideal.Read.val_main_v22 (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) :=
  θ_run_mono (Cert.Reference5Ideal.Value.run m' ρ) fun r h c => (h c).1.trans (Cert.Reference5Ideal.Read.val_main_v22_eq _ _ _ _)

end Cert.Kernel5Ideal.Prenorm
end
-- ==== Proof.ProjIdeal.lean ====
/- The projection's run: what each grid point leaves in the two results' buffers, and the arrays after the run. -/
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.TableIdle
public import Idealize.ShloMosaic.Lib.Claim

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points: 20 column tiles per row tile, the first 2 for `u`, the other 18 for `qkv` -/

theorem points (t : Fin cfg0.N) : t.val < 80 := lt_of_lt_of_eq t.isLt (show cfg0.N = 80 from N_0)

theorem cond1 : ∀ t : Fin cfg0.N, k0_cond1 (grid0.coords t) = 1#1 ↔ t.val % 20 < 2 :=
  (fun t => by
    have ht : t.val < 80 := Nat.lt_of_lt_of_eq t.isLt N_0
    have e1 : (grid0.coords t 1).val = t.val / 1 % 20 := Pipeline.Grid.coords_val t 1 (by decide) rfl
    simp only [k0_cond1, e1]
    word_cmp
   : ∀ t : Fin grid0.N, k0_cond1 (grid0.coords t) = 1#1 ↔ t.val % 20 < 2)

theorem cond2 : ∀ t : Fin cfg0.N, k0_cond2 (grid0.coords t) = 1#1 ↔ 2 ≤ t.val % 20 :=
  (fun t => by
    have ht : t.val < 80 := Nat.lt_of_lt_of_eq t.isLt N_0
    have e1 : (grid0.coords t 1).val = t.val / 1 % 20 := Pipeline.Grid.coords_val t 1 (by decide) rfl
    simp only [k0_cond2, e1]
    word_cmp
   : ∀ t : Fin grid0.N, k0_cond2 (grid0.coords t) = 1#1 ↔ 2 ≤ t.val % 20)

theorem flush2 : ∀ t : Fin cfg0.N, (cfg0.win 2).flush t = decide (t.val % 20 = 0 ∨ t.val % 20 = 19) := by
  decide +kernel

theorem flush3 : ∀ t : Fin cfg0.N, (cfg0.win 3).flush t = decide (2 ≤ t.val % 20) := by
  decide +kernel

theorem stale2 : ∀ t : Fin cfg0.N, t.val % 20 = 19 → cfg0.fresh 2 t.val = false := by
  decide +kernel

/-! ## What the body leaves -/

abbrev rH : Rect S2048x4096 := Rect.unit (s := S2048x4096) ![0, 0] S2048x4096.size inb_S2048x4096_S2048x4096_0_0
abbrev rW : Rect S4096x512 := Rect.unit (s := S4096x512) ![0, 0] S4096x512.size inb_S4096x512_S4096x512_0_0
abbrev rO : Rect S2048x512 := Rect.unit (s := S2048x512) ![0, 0] S2048x512.size inb_S2048x512_S2048x512_0_0

/-- The first result's buffer after a point that stores it, from the blocks of the input and the weight. -/
def outU (x0 : Vec F S2048x4096 .bf16) (x1 : Vec F S4096x512 .f32) : Vec F S2048x512 .f32 :=
  View.canon [⟨rO, k0_pay1 (View.ld x0 rH) (View.ld x1 rW)⟩]

/-- The second result's buffer after a point that stores it. -/
def outQ (i : grid0.Coords) (x0 : Vec F S2048x4096 .bf16) (x1 : Vec F S4096x512 .f32) : Vec F S2048x512 .bf16 :=
  View.canon [⟨rO, k0_pay2 i (View.ld x0 rH) (View.ld x1 rW)⟩]

theorem cover {e : EltTy} (p : Vec F S2048x512 e) (y : S2048x512.Idx) :
    ∃ pc ∈ ([⟨rO, p⟩] : List (View.Piece (Elt F) S2048x512 e)), y ∈ pc.1.set :=
  View.cover_of_tiled [⟨rO, p⟩] S2048x512.size (by rfl) y

set_option maxHeartbeats 1000000 in
/-- The body at a point that stores the first result. -/
theorem sound_u (c : Dev nD) (E : Set ℕ) (i : grid0.Coords) (arg2 : Memref sig .tc .vmem S2048x4096 .bf16) (harg2 : arg2.IsWhole) (arg3 : Memref sig .tc .vmem S4096x512 .f32) (harg3 : arg3.IsWhole) (arg4 : Memref sig .tc .vmem S2048x512 .f32) (harg4 : arg4.IsWhole) (arg5 : Memref sig .tc .vmem S2048x512 .bf16) (harg5 : arg5.IsWhole)
    (h1 : k0_cond1 i = 1#1) (h2 : ¬k0_cond2 i = 1#1)
    (x0 : Vec F S2048x4096 .bf16) (x1 : Vec F S4096x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outU x0 x1)) -∗ K ⟨⟩))
      ⊢ wp frame (wpE (defs₀ (F := F)) Variants.none c none) E (cc0_proj i arg2 harg2 arg3 harg3 arg4 harg4 arg5 harg5) K := by
  simp only [cc0_proj_eq_skeleton]; unfold cc0_proj_skel
  unfold owns
  iintro ⟨⟨%f0, %hf0, H0⟩, ⟨%f1, %hf1, H1⟩, ⟨%d2, %f2, -, H2⟩, Hk⟩
  subst hf0 hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

set_option maxHeartbeats 1000000 in
/-- The body at a point that stores the second result. -/
theorem sound_q (c : Dev nD) (E : Set ℕ) (i : grid0.Coords) (arg2 : Memref sig .tc .vmem S2048x4096 .bf16) (harg2 : arg2.IsWhole) (arg3 : Memref sig .tc .vmem S4096x512 .f32) (harg3 : arg3.IsWhole) (arg4 : Memref sig .tc .vmem S2048x512 .f32) (harg4 : arg4.IsWhole) (arg5 : Memref sig .tc .vmem S2048x512 .bf16) (harg5 : arg5.IsWhole)
    (h1 : ¬k0_cond1 i = 1#1) (h2 : k0_cond2 i = 1#1)
    (x0 : Vec F S2048x4096 .bf16) (x1 : Vec F S4096x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (outQ i x0 x1)) -∗ K ⟨⟩))
      ⊢ wp frame (wpE (defs₀ (F := F)) Variants.none c none) E (cc0_proj i arg2 harg2 arg3 harg3 arg4 harg4 arg5 harg5) K := by
  simp only [cc0_proj_eq_skeleton]; unfold cc0_proj_skel
  unfold owns
  iintro ⟨⟨%f0, %hf0, H0⟩, ⟨%f1, %hf1, H1⟩, ⟨%d3, %f3, -, H3⟩, Hk⟩
  subst hf0 hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (cover _)

/-! ## The pipeline's proof data -/

/-- The point whose blocks the first result's buffer holds at point `t`: `t` where the body stores it, else the row tile's
    second point, which stored it last. -/
def src (t : Fin cfg0.N) : Fin cfg0.N :=
  if t.val % 20 < 2 then t else ⟨20 * (t.val / 20) + 1, by have := points t; exact lt_of_lt_of_eq (by omega) (show cfg0.N = 80 from N_0).symm⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outU (iblk m c 0 (src t)) (iblk m c 1 (src t))
    | ⟨3, _⟩ => outQ (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outU (iblk m c 0 (src t)) (iblk m c 1 (src t)) := by dsimp only [dats]
theorem after0_3 (c : Dev nD) (t : Fin cfg0.N) : (dats m 0 c).after 3 t = outQ (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem src_low (t : Fin cfg0.N) (h : t.val % 20 < 2) : src t = t := if_pos h

theorem src_pred (t : Fin cfg0.N) (h : ¬t.val % 20 < 2) (hl : t.val - 1 < cfg0.N) : src ⟨t.val - 1, hl⟩ = src t := by
  unfold src
  rw [if_neg h]
  split <;> (apply Fin.ext; simp only [] at *; omega)

theorem idle2 (t : Fin cfg0.N) : cfg0.idle 2 (cfg0.grid.coords t) = decide (¬t.val % 20 < 2) := by
  show (!(k0_cond1 (grid0.coords t) == 1#1)) = _
  by_cases h : t.val % 20 < 2
  · rw [(cond1 t).mpr h]; simp [h]
  · have := mt (cond1 t).mp h
    simp [h, this]

theorem idle3 (t : Fin cfg0.N) : cfg0.idle 3 (cfg0.grid.coords t) = decide (t.val % 20 < 2) := by
  show (!(k0_cond2 (grid0.coords t) == 1#1)) = _
  by_cases h : 2 ≤ t.val % 20
  · rw [(cond2 t).mpr h]; simp; omega
  · have := mt (cond2 t).mp h
    have hl : t.val % 20 < 2 := by omega
    simp [this, hl]

/-- At a row tile's last point the first result's buffer still holds what the second point left. -/
theorem before_last (c : Dev nD) (t : Fin cfg0.N) (h : t.val % 20 = 19) (d) : (dats m 0 c).before 2 t d = (dats m 0 c).after 2 t := by
  have carry : ∀ (t : Fin cfg0.N) (_ : t.val ≠ 0), cfg0.idle 2 (cfg0.grid.coords t) = true →
      (dats m 0 c).after 2 t = (dats m 0 c).after 2 ⟨t.val - 1, by omega⟩ := fun t _ hi => by
    rw [idle2, decide_eq_true_eq] at hi
    rw [after0_2, after0_2, src_pred t hi]
  rw [(dats m 0 c).before_out_traj 2 rfl (fun _ _ => rfl) (fun t h0 hi _ => carry t h0 hi) t.val t rfl d,
    stale2 t h, if_neg Bool.false_ne_true]
  exact (carry t (by omega) (by rw [idle2, decide_eq_true_eq]; omega)).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t
    ∗ (dats m 0 c).leavesExact 3 t)

theorem leaves2_low (c : Dev nD) (t : Fin cfg0.N) (h : t.val % 20 < 2) :
    (dats m 0 c).leavesExact 2 t = owns (c : Thread nD τ) (st0_2 t) fullShare (outU (iblk m c 0 t) (iblk m c 1 t)) := by
  unfold Dat.leavesExact
  rw [show cfg0.idle 2 (cfg0.grid.coords t) = false from by rw [idle2]; simp [h], after0_2, src_low t h]

theorem leaves3_high (c : Dev nD) (t : Fin cfg0.N) (h : ¬t.val % 20 < 2) :
    (dats m 0 c).leavesExact 3 t = owns (c : Thread nD τ) (st0_3 t) fullShare (outQ (grid0.coords t) (iblk m c 0 t) (iblk m c 1 t)) := by
  unfold Dat.leavesExact
  rw [show cfg0.idle 3 (cfg0.grid.coords t) = false from by rw [idle3]; simp [h], after0_3]

theorem leaves3_low (c : Dev nD) (t : Fin cfg0.N) (h : t.val % 20 < 2) :
    (dats m 0 c).leavesExact 3 t = iprop(∃ d, owns (c : Thread nD τ) (st0_3 t) fullShare ((dats m 0 c).before 3 t d)) := by
  unfold Dat.leavesExact
  rw [show cfg0.idle 3 (cfg0.grid.coords t) = true from by rw [idle3]; simp [h],
    show (cfg0.win 3).flush t = false from by rw [flush3]; simp; omega]

theorem leaves2_high (c : Dev nD) (t : Fin cfg0.N) (h : ¬t.val % 20 < 2) :
    iprop(∃ d, owns (c : Thread nD τ) (st0_2 t) fullShare ((dats m 0 c).before 2 t d)) ⊢ ((dats m 0 c).leavesExact 2 t : sProp 𝕄) := by
  unfold Dat.leavesExact
  rw [show cfg0.idle 2 (cfg0.grid.coords t) = true from by rw [idle2]; simp; omega]
  by_cases h19 : t.val % 20 = 19
  · rw [show (cfg0.win 2).flush t = true from by rw [flush2]; simp; omega]
    iintro ⟨%d, H⟩
    rw [before_last m c t h19 d]
    iexact H
  · rw [show (cfg0.win 2).flush t = false from by rw [flush2]; simp; omega]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  by_cases h : t.val % 20 < 2
  · rw [leaves2_low m c t h, leaves3_low m c t h]
    iintro ⟨HΦ, Ho, ⟨%d0, H0⟩, ⟨%d1, H1⟩, ⟨%d2, H2⟩, H3⟩
    iapply (sound_u c Set.univ (grid0.coords t) _ _ _ _ _ _ _ _ ((cond1 t).mpr h) (fun h2 => absurd ((cond2 t).mp h2) (by omega)) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexact H3
  · rw [leaves3_high m c t h]
    iintro ⟨HΦ, Ho, ⟨%d0, H0⟩, ⟨%d1, H1⟩, H2, ⟨%d3, H3⟩⟩
    iapply (sound_q c Set.univ (grid0.coords t) _ _ _ _ _ _ _ _ (fun h1 => h ((cond1 t).mp h1)) ((cond2 t).mpr (by omega)) (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]
    · iapply (leaves2_high m c t h); iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel3Ideal.Proj

end
-- ==== Proof.Proj.lean ====
/- The projection as printed is the projection as idealized: the same program, so its frame is the same. -/
module

public import proofs.«01_k».proof.Proof.ProjIdeal
public import proofs.«01_k».proof.Proof.Gen.Kernel3

@[expose] public section

noncomputable section

namespace Cert.Kernel3.Proj

open Cert.Kernel3 Cert.Kernel3.Gen Idealize.ShloMosaic Idealize.ShloMosaic.TcCoe Idealize.SL Idealize.SL.Sem

variable {F : FTy → Type} [FloatOps F]

/-- The two programs' body tables are one table: each label's row is the same function. -/
theorem table_eq : Cert.Kernel3.defs₀ (F := F) = Cert.Kernel3Ideal.defs₀ (F := F) := by
  unfold Cert.Kernel3.defs₀ Cert.Kernel3Ideal.defs₀
  refine congrArg Defs.onTc ?_
  funext l a
  match l, a with
  | ⟨0, _⟩, (t, s) => with_unfolding_all rfl

theorem defs_eq : Cert.Kernel3.defs (F := F) = Cert.Kernel3Ideal.defs (F := F) :=
  congrArg (Pipeline.defs Cert.Kernel3Ideal.pcfgs) table_eq

theorem main_eq : Cert.Kernel3.main (F := F) = Cert.Kernel3Ideal.main (F := F) := by with_unfolding_all rfl

/-- Every execution ends, the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.Kernel3Ideal.Proj.frame (F := F) m ρ

end Cert.Kernel3.Proj
end
-- ==== Proof.ProjValue.lean ====
/- The projection's values: the two results' arrays after the run are the reference's. -/
module

public import proofs.«01_k».proof.Proof.ProjIdeal
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384
noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ)

/-- One element of the projection: a row of the input against a column of the weight. -/
def dotp (h w : Fin 4096 → EReal) : EReal := ∑ k, h k * w k

/-- The factor the queries carry. -/
def factor : EReal := (FloatOps.ofBits .f32 0x3E0293EE#32 : Ideal .f32)

/-! ### The body's values -/

theorem pay1_at (h : Vec Ideal S2048x4096 .bf16) (w : Vec Ideal S4096x512 .f32) (r : Fin 2048) (e : Fin 512) :
    k0_pay1 h w (ix2 r e) = dotp (fun k => h (ix2 r k)) (fun k => w (ix2 k e)) := by
  pointwise [k0_pay1, dotp]

/-- The column tiles of the queries, by their numbers. -/
theorem queries : ∀ j : Fin 20, Scalar.cmpi .slt (BitVec.ofNat 32 j.val) 8#32 = if j.val < 8 then 1#1 else 0#1 := by decide +kernel

theorem pay2_at (i : grid0.Coords) (h : Vec Ideal S2048x4096 .bf16) (w : Vec Ideal S4096x512 .f32) (r : Fin 2048) (e : Fin 512) :
    k0_pay2 i h w (ix2 r e) = if (i 1).val < 8 then dotp (fun k => h (ix2 r k)) (fun k => w (ix2 k e)) * factor
      else dotp (fun k => h (ix2 r k)) (fun k => w (ix2 k e)) := by
  pointwise [k0_pay2, dotp, factor]
  rw [queries ⟨(i 1).val, (i 1).isLt⟩]
  by_cases hj : (i 1).val < 8
  · rw [if_pos hj, if_pos hj]; rfl
  · rw [if_neg hj, if_neg hj]; exact mul_one _

theorem outU_at (x0 : Vec Ideal S2048x4096 .bf16) (x1 : Vec Ideal S4096x512 .f32) (r : Fin 2048) (e : Fin 512) :
    outU x0 x1 (ix2 r e) = dotp (fun k => x0 (ix2 r k)) (fun k => x1 (ix2 k e)) := by
  unfold outU
  rw [View.canon_unit_zero (by funext a; match a with | ⟨0, _⟩ => rfl | ⟨1, _⟩ => rfl), View.ld_unit_lit (S := S2048x4096) _ x0 (by decide), View.ld_unit_lit (S := S4096x512) _ x1 (by decide)]
  exact pay1_at x0 x1 r e

theorem outQ_at (i : grid0.Coords) (x0 : Vec Ideal S2048x4096 .bf16) (x1 : Vec Ideal S4096x512 .f32) (r : Fin 2048) (e : Fin 512) :
    outQ i x0 x1 (ix2 r e) = if (i 1).val < 8 then dotp (fun k => x0 (ix2 r k)) (fun k => x1 (ix2 k e)) * factor
      else dotp (fun k => x0 (ix2 r k)) (fun k => x1 (ix2 k e)) := by
  unfold outQ
  rw [View.canon_unit_zero (by funext a; match a with | ⟨0, _⟩ => rfl | ⟨1, _⟩ => rfl), View.ld_unit_lit (S := S2048x4096) _ x0 (by decide), View.ld_unit_lit (S := S4096x512) _ x1 (by decide)]
  exact pay2_at i x0 x1 r e

/-! ### The blocks -/

/-- The grid point of row tile `b` and column tile `t`. -/
def pt (b : Fin 4) (t : Fin 20) : Fin cfg0.N := ⟨20 * b.val + t.val, by show _ < 80; omega⟩

theorem idx : ∀ t : Fin cfg0.N, win0_0.index t = ![t.val / 20, 0] ∧ win0_1.index t = ![0, t.val % 20] ∧ win0_2.index t = ![t.val / 20, min (t.val % 20) 1] ∧ win0_3.index t = ![t.val / 20, t.val % 20 - 2] :=
  (by decide +kernel : ∀ t : Fin grid0.N, win0_0.index t = ![t.val / 20, 0] ∧ win0_1.index t = ![0, t.val % 20] ∧ win0_2.index t = ![t.val / 20, min (t.val % 20) 1] ∧ win0_3.index t = ![t.val / 20, t.val % 20 - 2])

theorem column (t : Fin grid0.N) : (grid0.coords t 1).val = t.val / 1 % 20 := Pipeline.Grid.coords_val t 1 (by decide) rfl

/-- Points that write back the first result write back different blocks of it. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (by
    rw [flush2, decide_eq_true_eq] at hf hf'
    have h : win0_2.index t = win0_2.index t' := h
    rw [(idx t).2.2.1, (idx t').2.2.1] at h
    have h0 := congrFun h 0
    have h1 := congrFun h 1
    simp only [Matrix.cons_val_zero, Matrix.cons_val_one] at h0 h1
    exact Fin.ext (by omega))

theorem disjoint3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    rw [flush3, decide_eq_true_eq] at hf hf'
    have h : win0_3.index t = win0_3.index t' := h
    rw [(idx t).2.2.2, (idx t').2.2.2] at h
    have h0 := congrFun h 0
    have h1 := congrFun h 1
    simp only [Matrix.cons_val_zero, Matrix.cons_val_one] at h0 h1
    exact Fin.ext (by omega))

theorem V0 (c : Dev nD) (k : Fin 4096) (e : Fin 10240) : V m c main_v0 (ix2 k e) = m ((c : Thread nD τ).loc main_arg1) (ix3 0 k e) := by
  unfold V
  simp only [List.flatten_cons, List.flatten_nil, List.append_nil, hostOps0, List.cons_append, List.nil_append]
  after_results
  pointwise

theorem blk0 (c : Dev nD) (b : Fin 4) (t : Fin 20) (r : Fin 2048) (k : Fin 4096) :
    iblk m c 0 (pt b t) (ix2 r k) = m ((c : Thread nD τ).loc main_arg0) (ix2 ⟨2048 * b.val + r.val, by omega⟩ k) := by
  have hi := (idx (pt b t)).1
  have hv : (pt b t).val = 20 * b.val + t.val := rfl
  blk_ext [iblk, V_main_arg0, hi, hv]

theorem blk1 (c : Dev nD) (b : Fin 4) (t : Fin 20) (k : Fin 4096) (e : Fin 512) :
    iblk m c 1 (pt b t) (ix2 k e) = m ((c : Thread nD τ).loc main_arg1) (ix3 0 k ⟨512 * t.val + e.val, by omega⟩) := by
  have hi := (idx (pt b t)).2.1
  have hv : (pt b t).val = 20 * b.val + t.val := rfl
  have h : iblk m c 1 (pt b t) (ix2 k e) = V m c main_v0 (ix2 k ⟨512 * t.val + e.val, by omega⟩) := by blk_ext [iblk, hi, hv]
  exact h.trans (V0 m c k _)

/-- An element of the projection as the kernel's blocks hold it. -/
theorem dot_blk (c : Dev nD) (b : Fin 4) (t : Fin 20) (r : Fin 2048) (e : Fin 512) :
    dotp (fun k => iblk m c 0 (pt b t) (ix2 r k)) (fun k => iblk m c 1 (pt b t) (ix2 k e))
      = dotp (fun k => m ((c : Thread nD τ).loc main_arg0) (ix2 ⟨2048 * b.val + r.val, by omega⟩ k))
          (fun k => m ((c : Thread nD τ).loc main_arg1) (ix3 0 k ⟨512 * t.val + e.val, by omega⟩)) := by
  rw [show (fun k => iblk m c 0 (pt b t) (ix2 r k)) = _ from funext (blk0 m c b t r),
    show (fun k => iblk m c 1 (pt b t) (ix2 k e)) = _ from funext fun k => blk1 m c b t k e]

/-- The first result after the run: column tile 0 is written back at a row tile's first point, column tile 1 at its last. -/
theorem arrU (c : Dev nD) (b : Fin 4) (t : Fin 2) (r : Fin 2048) (e : Fin 512) :
    (dats m 0 c).arrAt 2 cfg0.N (ix2 ⟨2048 * b.val + r.val, by omega⟩ ⟨512 * t.val + e.val, by omega⟩)
      = outU (iblk m c 0 (pt b ⟨t.val, by omega⟩)) (iblk m c 1 (pt b ⟨t.val, by omega⟩)) (ix2 r e) := by
  have h01 : t.val = 0 ∨ t.val = 1 := by omega
  have hv : (pt b ⟨19 * t.val, by omega⟩).val = 20 * b.val + 19 * t.val := rfl
  have hi := (idx (pt b ⟨19 * t.val, by omega⟩)).2.2.1
  have hs : src (pt b ⟨19 * t.val, by omega⟩) = pt b ⟨t.val, by omega⟩ := by
    unfold src
    rcases h01 with h01 | h01 <;> split <;> (apply Fin.ext; simp only [pt, h01] at * <;> omega)
  have h := congrFun ((dats m 0 c).read_blk_arrAt_eq_flushed 2 disjoint2 cfg0.N _ (pt b ⟨19 * t.val, by omega⟩).isLt
    (by rw [flush2, decide_eq_true_eq, hv]; rcases h01 with h01 | h01 <;> omega)) (ix2 r e)
  have hc : (dats m 0 c).flushed 2 (pt b ⟨19 * t.val, by omega⟩) (ix2 r e) = outU (iblk m c 0 (pt b ⟨t.val, by omega⟩)) (iblk m c 1 (pt b ⟨t.val, by omega⟩)) (ix2 r e) := by
    rw [← hs, ← after0_2]; rfl
  rw [← hc, ← h]
  symm
  blk_ext [hi, hv]

/-- The second result after the run: column tile `t` is written back at the row tile's point `t + 2`. -/
theorem arrQ (c : Dev nD) (b : Fin 4) (t : Fin 18) (r : Fin 2048) (e : Fin 512) :
    (dats m 0 c).arrAt 3 cfg0.N (ix2 ⟨2048 * b.val + r.val, by omega⟩ ⟨512 * t.val + e.val, by omega⟩)
      = outQ (grid0.coords (pt b ⟨t.val + 2, by omega⟩)) (iblk m c 0 (pt b ⟨t.val + 2, by omega⟩)) (iblk m c 1 (pt b ⟨t.val + 2, by omega⟩)) (ix2 r e) := by
  have hv : (pt b ⟨t.val + 2, by omega⟩).val = 20 * b.val + (t.val + 2) := rfl
  have hi := (idx (pt b ⟨t.val + 2, by omega⟩)).2.2.2
  have h := congrFun ((dats m 0 c).read_blk_arrAt_eq_flushed 3 disjoint3 cfg0.N _ (pt b ⟨t.val + 2, by omega⟩).isLt
    (by rw [flush3, decide_eq_true_eq, hv]; omega)) (ix2 r e)
  rw [← after0_3]
  refine Eq.trans ?_ h
  symm
  blk_ext [hi, hv]

/-! ### The reference -/

open Cert.Reference3Ideal.Read in
theorem refU (x0 : Vec Ideal S8192x4096 .bf16) (x1 : Vec Ideal S1x4096x10240 .f32) (r : Fin 8192) (e : Fin 1024) :
    val_main_v3 (F := Ideal) x0 x1 (ix2 r e) = dotp (fun k => x0 (ix2 r k)) (fun k => x1 (ix3 0 k ⟨e.val, by omega⟩)) := by
  unfold val_main_v3 val_main_v2 val_main_v1 val_main_v0
  pointwise [dotp]

open Cert.Reference3Ideal.Read in
theorem refQ (x0 : Vec Ideal S8192x4096 .bf16) (x1 : Vec Ideal S1x4096x10240 .f32) (r : Fin 8192) (e : Fin 9216) :
    val_main_v10 (F := Ideal) x0 x1 (ix2 r e) = if e.val < 3072 then dotp (fun k => x0 (ix2 r k)) (fun k => x1 (ix3 0 k ⟨1024 + e.val, by omega⟩)) * factor
      else dotp (fun k => x0 (ix2 r k)) (fun k => x1 (ix3 0 k ⟨1024 + e.val, by omega⟩)) := by
  unfold val_main_v10 val_main_v9 val_main_v8 val_main_v7 val_main_v6 val_main_v5 val_main_cst val_main_v4 val_main_v2 val_main_v1 val_main_v0
  pointwise [dotp, factor]
  by_cases h1 : e.val < 3072
  · rw [dif_pos h1, if_pos h1]
  · rw [dif_neg h1, if_neg h1]
    by_cases h2 : e.val - 3072 < 3072
    · rw [dif_pos h2]
      exact Finset.sum_congr rfl fun k _ => congrArg (fun j => x0 (ix2 r k) * x1 (ix3 0 k j)) (Fin.ext (by show 4096 + (e.val - 3072) = 1024 + e.val; omega))
    · rw [dif_neg h2]
      exact Finset.sum_congr rfl fun k _ => congrArg (fun j => x0 (ix2 r k) * x1 (ix3 0 k j)) (Fin.ext (by show 7168 + (e.val - 3072 - 3072) = 1024 + e.val; omega))

/-! ### The arrays after the run -/

theorem u_eq (c : Dev nD) :
    (dats m 0 c).arrAt 2 cfg0.N = Cert.Reference3Ideal.Read.val_main_v3 (m ((c : Thread nD τ).loc main_arg0)) (m ((c : Thread nD τ).loc main_arg1)) := by
  funext y
  obtain ⟨i, j, rfl⟩ : ∃ (i : Fin 8192) (j : Fin 1024), y = ix2 i j := ⟨y 0, y 1, by funext a; match a with | ⟨0, _⟩ => rfl | ⟨1, _⟩ => rfl⟩
  obtain ⟨b, r, hbr⟩ : ∃ (b : Fin 4) (r : Fin 2048), i.val = 2048 * b.val + r.val := ⟨⟨i.val / 2048, by omega⟩, ⟨i.val % 2048, by omega⟩, by show i.val = 2048 * (i.val / 2048) + i.val % 2048; omega⟩
  obtain ⟨t, e, hte⟩ : ∃ (t : Fin 2) (e : Fin 512), j.val = 512 * t.val + e.val := ⟨⟨j.val / 512, by omega⟩, ⟨j.val % 512, by omega⟩, by show j.val = 512 * (j.val / 512) + j.val % 512; omega⟩
  rw [show i = ⟨2048 * b.val + r.val, by omega⟩ from Fin.ext hbr, show j = ⟨512 * t.val + e.val, by omega⟩ from Fin.ext hte]
  exact (arrU m c b t r e).trans ((outU_at _ _ r e).trans ((dot_blk m c b _ r e).trans (refU _ _ _ ⟨512 * t.val + e.val, by omega⟩).symm))

theorem qkv_eq (c : Dev nD) :
    (dats m 0 c).arrAt 3 cfg0.N = Cert.Reference3Ideal.Read.val_main_v10 (m ((c : Thread nD τ).loc main_arg0)) (m ((c : Thread nD τ).loc main_arg1)) := by
  funext y
  obtain ⟨i, j, rfl⟩ : ∃ (i : Fin 8192) (j : Fin 9216), y = ix2 i j := ⟨y 0, y 1, by funext a; match a with | ⟨0, _⟩ => rfl | ⟨1, _⟩ => rfl⟩
  obtain ⟨b, r, hbr⟩ : ∃ (b : Fin 4) (r : Fin 2048), i.val = 2048 * b.val + r.val := ⟨⟨i.val / 2048, by omega⟩, ⟨i.val % 2048, by omega⟩, by show i.val = 2048 * (i.val / 2048) + i.val % 2048; omega⟩
  obtain ⟨t, e, hte⟩ : ∃ (t : Fin 18) (e : Fin 512), j.val = 512 * t.val + e.val := ⟨⟨j.val / 512, by omega⟩, ⟨j.val % 512, by omega⟩, by show j.val = 512 * (j.val / 512) + j.val % 512; omega⟩
  rw [show i = ⟨2048 * b.val + r.val, by omega⟩ from Fin.ext hbr, show j = ⟨512 * t.val + e.val, by omega⟩ from Fin.ext hte]
  refine (arrQ m c b t r e).trans ((outQ_at _ _ _ r e).trans (Eq.trans ?_ (refQ _ _ _ _).symm))
  have hcol : (grid0.coords (pt b ⟨t.val + 2, by omega⟩) 1).val = t.val + 2 :=
    (column (pt b ⟨t.val + 2, by omega⟩)).trans (by show (20 * b.val + (t.val + 2)) / 1 % 20 = t.val + 2; omega)
  rw [dot_blk m c b _ r e, hcol]
  have hk : (⟨512 * (⟨t.val + 2, by omega⟩ : Fin 20).val + e.val, by show 512 * (t.val + 2) + e.val < 10240; omega⟩ : Fin 10240) = ⟨1024 + (512 * t.val + e.val), by omega⟩ :=
    Fin.ext (by show 512 * (t.val + 2) + e.val = 1024 + (512 * t.val + e.val); omega)
  by_cases h8 : t.val + 2 < 8
  · rw [if_pos h8, if_pos (show 512 * t.val + e.val < 3072 by omega), hk]
  · rw [if_neg h8, if_neg (show ¬512 * t.val + e.val < 3072 by omega), hk]

/-! ### The two runs -/

/-- The kernel's run, its two results named and its arguments unchanged. -/
theorem run_named (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  θ_run_mono (θ_run_and (run_main m ρ) (frame_of m ρ (dats m) (A_eq m) (run_main m ρ))) fun r h c => ⟨(h.1 c).1 2, (h.1 c).1 3, h.2 c⟩

/-- The reference's run, its two results named by its last operations' values. -/
theorem run_stages (m' : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m', fun _ => 0, ρ⟩ fun r => ∀ c : Dev Cert.Reference3Ideal.nD,
      r.2.mem ((c : Thread Cert.Reference3Ideal.nD Cert.Reference3Ideal.τ).loc Cert.Reference3Ideal.main_v3) = Cert.Reference3Ideal.Read.val_main_v3 (m' ((c : Thread Cert.Reference3Ideal.nD Cert.Reference3Ideal.τ).loc Cert.Reference3Ideal.main_arg0)) (m' ((c : Thread Cert.Reference3Ideal.nD Cert.Reference3Ideal.τ).loc Cert.Reference3Ideal.main_arg1))
      ∧ r.2.mem ((c : Thread Cert.Reference3Ideal.nD Cert.Reference3Ideal.τ).loc Cert.Reference3Ideal.main_v10) = Cert.Reference3Ideal.Read.val_main_v10 (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) :=
  θ_run_mono (Cert.Reference3Ideal.Value.run m' ρ) fun r h c => ⟨(h c).1.trans (Cert.Reference3Ideal.Read.val_main_v3_eq _ _), (h c).2.1.trans (Cert.Reference3Ideal.Read.val_main_v10_eq _ _)⟩

end Cert.Kernel3Ideal.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Final
public import proofs.«01_k».proof.Proof.RefRun
public import proofs.«01_k».proof.Proof.Up
public import proofs.«01_k».proof.Proof.Ada
public import proofs.«01_k».proof.Proof.Prenorm
public import proofs.«01_k».proof.Proof.Proj
public import proofs.«01_k».proof.Proof.ProjValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The mixing call and its reference, over the extended reals. -/
theorem mix_pair : Cert.algebraic_KernelIdeal_ReferenceIdeal_pre_finite_qk := by
  intro m g m' g' hpre hagree
  refine ⟨fun c => (Cert.KernelIdeal.Gen.dats m 0 c).arrAt 14 Cert.KernelIdeal.cfg0.N, fun c => (Cert.KernelIdeal.Gen.dats m 0 c).arrAt 15 Cert.KernelIdeal.cfg0.N,
    Cert.KernelIdeal.Value.run_blocks m g, θ_run_mono (θ_run_and (Cert.ReferenceIdeal.Mix.run_stages m' g') (Cert.ReferenceIdeal.Value.run m' g')) fun r h c => ⟨?_, ?_, (h.2 c).2.2⟩⟩
  · refine (h.1 c).1.trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    exact (Cert.KernelIdeal.Mix.mix_eq m c (Cert.KernelIdeal.Mix.real_of_pre m hpre c)).symm
  · refine (h.1 c).2.trans ?_
    rw [(hagree c).2.2.2.2.2.2.2.2.2.1, (hagree c).2.2.2.2.2.2.2.2.2.2.1, (hagree c).2.2.2.2.2.2.2.2.2.2.2]
    exact (Cert.KernelIdeal.Mix.mod_eq m c).symm

/-- The gated product of the feed-forward parts and its reference, over the extended reals. -/
theorem up_pair : Cert.algebraic_Kernel2Ideal_Reference2Ideal := by
  intro m g m' g' _ hagree
  refine ⟨fun c => (Cert.Kernel2Ideal.Gen.dats m 0 c).arrAt 3 Cert.Kernel2Ideal.cfg0.N,
    Cert.Kernel2Ideal.Value.run_blocks m g, θ_run_mono (θ_run_and (Cert.Kernel2Ideal.Up.run_stages m' g') (Cert.Reference2Ideal.Value.run m' g')) fun r h c => ⟨?_, (h.2 c).2⟩⟩
  refine (h.1 c).trans ?_
  rw [(hagree c).1, (hagree c).2.1, (hagree c).2.2]
  exact (Cert.Kernel2Ideal.Up.up_eq m c).symm

/-- The projection, its two results, and its reference, over the extended reals. -/
theorem proj_pair : Cert.algebraic_Kernel3Ideal_Reference3Ideal := by
  intro m g m' g' _ hagree
  refine ⟨fun c => (Cert.Kernel3Ideal.Proj.dats m 0 c).arrAt 2 Cert.Kernel3Ideal.cfg0.N, fun c => (Cert.Kernel3Ideal.Proj.dats m 0 c).arrAt 3 Cert.Kernel3Ideal.cfg0.N,
    Cert.Kernel3Ideal.Proj.run_named m g, θ_run_mono (θ_run_and (Cert.Kernel3Ideal.Proj.run_stages m' g') (Cert.Reference3Ideal.Value.run m' g')) fun r h c => ⟨?_, ?_, (h.2 c).2.2⟩⟩
  · refine (h.1 c).1.trans ?_
    rw [(hagree c).1, (hagree c).2]
    exact (Cert.Kernel3Ideal.Proj.u_eq m c).symm
  · refine (h.1 c).2.trans ?_
    rw [(hagree c).1, (hagree c).2]
    exact (Cert.Kernel3Ideal.Proj.qkv_eq m c).symm

/-- The early part of the modulation and its reference, over the extended reals. -/
theorem ada_pair : Cert.algebraic_Kernel4Ideal_Reference4Ideal := by
  intro m g m' g' _ hagree
  refine ⟨fun c => (Cert.Kernel4Ideal.Gen.dats m 0 c).arrAt 3 Cert.Kernel4Ideal.cfg0.N,
    Cert.Kernel4Ideal.Value.run_blocks m g, θ_run_mono (θ_run_and (Cert.Kernel4Ideal.Ada.run_stages m' g') (Cert.Reference4Ideal.Value.run m' g')) fun r h c => ⟨?_, (h.2 c).2⟩⟩
  refine (h.1 c).trans ?_
  rw [(hagree c).1, (hagree c).2.1, (hagree c).2.2]
  exact (Cert.Kernel4Ideal.Ada.ada_eq m c).symm

/-- The norm before the first sub-layer and its reference, over the extended reals. -/
theorem prenorm_pair : Cert.algebraic_Kernel5Ideal_Reference5Ideal := by
  intro m g m' g' _ hagree
  refine ⟨fun c => (Cert.Kernel5Ideal.Gen.dats m 0 c).arrAt 4 Cert.Kernel5Ideal.cfg0.N,
    Cert.Kernel5Ideal.Value.run_blocks m g, θ_run_mono (θ_run_and (Cert.Kernel5Ideal.Prenorm.run_stages m' g') (Cert.Reference5Ideal.Value.run m' g')) fun r h c => ⟨?_, (h.2 c).2⟩⟩
  refine (h.1 c).trans ?_
  rw [(hagree c).1, (hagree c).2.1, (hagree c).2.2.1, (hagree c).2.2.2]
  exact (Cert.Kernel5Ideal.Prenorm.prenorm_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_qk.Gen.facts,
  fun m g _ => Cert.Kernel.Gen.frame m g,
  fun m g _ => Cert.KernelIdeal.Gen.frame m g,
  fun m g _ => Cert.KernelIdeal.Gen.frame m g,
  fun m g _ => θ_run_mono (Cert.ReferenceIdeal.Value.run m g) fun r h => ⟨fun c => (h c).2.2, sem_eq_zero_of_no_sems (by decide) r.2⟩,
  fun m g _ => θ_run_mono (Cert.ReferenceIdeal.Value.run m g) fun r h => ⟨fun c => (h c).2.2, sem_eq_zero_of_no_sems (by decide) r.2⟩,
  fun m g _ => Cert.Kernel2.Gen.frame m g,
  fun m g _ => Cert.Kernel2Ideal.Gen.frame m g,
  fun m g _ => θ_run_mono (Cert.Reference2Ideal.Value.run m g) fun r h => ⟨fun c => (h c).2, sem_eq_zero_of_no_sems (by decide) r.2⟩,
  fun m g _ => Cert.Kernel3.Proj.frame m g,
  fun m g _ => Cert.Kernel3Ideal.Proj.frame m g,
  fun m g _ => θ_run_mono (Cert.Reference3Ideal.Value.run m g) fun r h => ⟨fun c => (h c).2.2, sem_eq_zero_of_no_sems (by decide) r.2⟩,
  fun m g _ => Cert.Kernel4.Gen.frame m g,
  fun m g _ => Cert.Kernel4Ideal.Gen.frame m g,
  fun m g _ => θ_run_mono (Cert.Reference4Ideal.Value.run m g) fun r h => ⟨fun c => (h c).2, sem_eq_zero_of_no_sems (by decide) r.2⟩,
  fun m g _ => Cert.Kernel5.Gen.frame m g,
  fun m g _ => Cert.Kernel5Ideal.Gen.frame m g,
  fun m g _ => θ_run_mono (Cert.Reference5Ideal.Value.run m g) fun r h => ⟨fun c => (h c).2, sem_eq_zero_of_no_sems (by decide) r.2⟩,
  trivial,
  mix_pair,
  trivial,
  up_pair,
  trivial,
  proj_pair,
  trivial,
  ada_pair,
  trivial,
  prenorm_pair⟩

end Cert.Proof

end
